-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S768x768 : Shape := ⟨2, ![768, 768]⟩
abbrev S768 : Shape := ⟨1, ![768]⟩
abbrev S1 : Shape := ⟨1, ![1]⟩
abbrev S2048x768 : Shape := ⟨2, ![2048, 768]⟩
abbrev S128x16x768 : Shape := ⟨3, ![128, 16, 768]⟩
abbrev S16x128x768 : Shape := ⟨3, ![16, 128, 768]⟩
abbrev S12x64x768 : Shape := ⟨3, ![12, 64, 768]⟩
abbrev S12x64x1 : Shape := ⟨3, ![12, 64, 1]⟩
abbrev S12x64x2048 : Shape := ⟨3, ![12, 64, 2048]⟩
abbrev S1024x768 : Shape := ⟨2, ![1024, 768]⟩
abbrev S1x64x768 : Shape := ⟨3, ![1, 64, 768]⟩
abbrev S1x64x1 : Shape := ⟨3, ![1, 64, 1]⟩
abbrev S1x64x1024 : Shape := ⟨3, ![1, 64, 1024]⟩
abbrev S64x768 : Shape := ⟨2, ![64, 768]⟩
abbrev S64x1024 : Shape := ⟨2, ![64, 1024]⟩
abbrev S64x1 : Shape := ⟨2, ![64, 1]⟩
abbrev S12x1x64 : Shape := ⟨3, ![12, 1, 64]⟩
abbrev S12x2048x64 : Shape := ⟨3, ![12, 2048, 64]⟩
abbrev S1x1x64 : Shape := ⟨3, ![1, 1, 64]⟩
abbrev S1x1024x64 : Shape := ⟨3, ![1, 1024, 64]⟩
abbrev S1024x64 : Shape := ⟨2, ![1024, 64]⟩
abbrev S1x64 : Shape := ⟨2, ![1, 64]⟩
abbrev S12x4096x128 : Shape := ⟨3, ![12, 4096, 128]⟩
abbrev S1x64x2048 : Shape := ⟨3, ![1, 64, 2048]⟩
abbrev S1x4096x128 : Shape := ⟨3, ![1, 4096, 128]⟩
abbrev S64x2048 : Shape := ⟨2, ![64, 2048]⟩
abbrev S2048 : Shape := ⟨1, ![2048]⟩
abbrev S1x2048 : Shape := ⟨2, ![1, 2048]⟩
abbrev S4096x128 : Shape := ⟨2, ![4096, 128]⟩
abbrev S64x128 : Shape := ⟨2, ![64, 128]⟩
abbrev S64x1x128 : Shape := ⟨3, ![64, 1, 128]⟩
abbrev S64x64x128 : Shape := ⟨3, ![64, 64, 128]⟩
abbrev S1x64x128 : Shape := ⟨3, ![1, 64, 128]⟩
abbrev S1x1 : Shape := ⟨2, ![1, 1]⟩
abbrev S1x2048x64 : Shape := ⟨3, ![1, 2048, 64]⟩
abbrev S2048x64 : Shape := ⟨2, ![2048, 64]⟩
abbrev S1024 : Shape := ⟨1, ![1024]⟩
abbrev S1x1024 : Shape := ⟨2, ![1, 1024]⟩
abbrev S64x1x1024 : Shape := ⟨3, ![64, 1, 1024]⟩
abbrev S64x64x1024 : Shape := ⟨3, ![64, 64, 1024]⟩
abbrev S4096x1024 : Shape := ⟨2, ![4096, 1024]⟩
abbrev S1024x128 : Shape := ⟨2, ![1024, 128]⟩
abbrev S1024x1 : Shape := ⟨2, ![1024, 1]⟩
abbrev S1024x2048 : Shape := ⟨2, ![1024, 2048]⟩
abbrev S1024x16x128 : Shape := ⟨3, ![1024, 16, 128]⟩
abbrev S1024x1x128 : Shape := ⟨3, ![1024, 1, 128]⟩
abbrev S768x12x64 : Shape := ⟨3, ![768, 12, 64]⟩
abbrev S12x768x64 : Shape := ⟨3, ![12, 768, 64]⟩
abbrev S1x768 : Shape := ⟨2, ![1, 768]⟩
abbrev S12x1024x64 : Shape := ⟨3, ![12, 1024, 64]⟩
abbrev S1x768x64 : Shape := ⟨3, ![1, 768, 64]⟩
abbrev S768x64 : Shape := ⟨2, ![768, 64]⟩

abbrev nBuf : Space → Nat
  | .hbm => 41
  | .vmem => 49
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S1, .f32⟩
  | .hbm, ⟨12, _⟩ => ⟨S2048x768, .f32⟩
  | .hbm, ⟨13, _⟩ => ⟨S128x16x768, .f32⟩
  | .hbm, ⟨14, _⟩ => ⟨S16x128x768, .f32⟩
  | .hbm, ⟨15, _⟩ => ⟨S2048x768, .f32⟩
  | .hbm, ⟨16, _⟩ => ⟨S2048x768, .f32⟩
  | .hbm, ⟨17, _⟩ => ⟨S128x16x768, .f32⟩
  | .hbm, ⟨18, _⟩ => ⟨S16x128x768, .f32⟩
  | .hbm, ⟨19, _⟩ => ⟨S2048x768, .f32⟩
  | .hbm, ⟨20, _⟩ => ⟨S2048x768, .f32⟩
  | .hbm, ⟨21, _⟩ => ⟨S12x64x768, .f32⟩
  | .hbm, ⟨22, _⟩ => ⟨S12x64x1, .f32⟩
  | .hbm, ⟨23, _⟩ => ⟨S12x64x2048, .f32⟩
  | .hbm, ⟨24, _⟩ => ⟨S12x64x2048, .bf16⟩
  | .hbm, ⟨25, _⟩ => ⟨S12x64x768, .f32⟩
  | .hbm, ⟨26, _⟩ => ⟨S12x64x1, .f32⟩
  | .hbm, ⟨27, _⟩ => ⟨S12x64x2048, .f32⟩
  | .hbm, ⟨28, _⟩ => ⟨S12x64x2048, .bf16⟩
  | .hbm, ⟨29, _⟩ => ⟨S12x64x768, .f32⟩
  | .hbm, ⟨30, _⟩ => ⟨S12x1x64, .f32⟩
  | .hbm, ⟨31, _⟩ => ⟨S12x2048x64, .bf16⟩
  | .hbm, ⟨32, _⟩ => ⟨S12x4096x128, .bf16⟩
  | .hbm, ⟨33, _⟩ => ⟨S1x1, .f32⟩
  | .hbm, ⟨34, _⟩ => ⟨S12x2048x64, .f32⟩
  | .hbm, ⟨35, _⟩ => ⟨S768x12x64, .f32⟩
  | .hbm, ⟨36, _⟩ => ⟨S12x768x64, .f32⟩
  | .hbm, ⟨37, _⟩ => ⟨S12x768x64, .bf16⟩
  | .hbm, ⟨38, _⟩ => ⟨S1x768, .f32⟩
  | .hbm, ⟨39, _⟩ => ⟨S2048x768, .f32⟩
  | .hbm, ⟨40, _⟩ => ⟨S1x2048x768, .f32⟩
  | .local _ .vmem, ⟨0, _⟩ => ⟨S1024x768, .f32⟩
  | .local _ .vmem, ⟨1, _⟩ => ⟨S1024x768, .f32⟩
  | .local _ .vmem, ⟨2, _⟩ => ⟨S1x64x768, .f32⟩
  | .local _ .vmem, ⟨3, _⟩ => ⟨S1x64x768, .f32⟩
  | .local _ .vmem, ⟨4, _⟩ => ⟨S1x64x1, .f32⟩
  | .local _ .vmem, ⟨5, _⟩ => ⟨S1x64x1, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .bf16⟩
  | .local _ .vmem, ⟨9, _⟩ => ⟨S1x64x1024, .bf16⟩
  | .local _ .vmem, ⟨10, _⟩ => ⟨S1024x768, .f32⟩
  | .local _ .vmem, ⟨11, _⟩ => ⟨S1024x768, .f32⟩
  | .local _ .vmem, ⟨12, _⟩ => ⟨S1x64x768, .f32⟩
  | .local _ .vmem, ⟨13, _⟩ => ⟨S1x64x768, .f32⟩
  | .local _ .vmem, ⟨14, _⟩ => ⟨S1x64x1, .f32⟩
  | .local _ .vmem, ⟨15, _⟩ => ⟨S1x64x1, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .bf16⟩
  | .local _ .vmem, ⟨19, _⟩ => ⟨S1x64x1024, .bf16⟩
  | .local _ .vmem, ⟨20, _⟩ => ⟨S1024x768, .f32⟩
  | .local _ .vmem, ⟨21, _⟩ => ⟨S1024x768, .f32⟩
  | .local _ .vmem, ⟨22, _⟩ => ⟨S1x64x768, .f32⟩
  | .local _ .vmem, ⟨23, _⟩ => ⟨S1x64x768, .f32⟩
  | .local _ .vmem, ⟨24, _⟩ => ⟨S1x1x64, .f32⟩
  | .local _ .vmem, ⟨25, _⟩ => ⟨S1x1x64, .f32⟩
  | .local _ .vmem, ⟨26, _⟩ => ⟨S1x1024x64, .bf16⟩
  | .local _ .vmem, ⟨27, _⟩ => ⟨S1x1024x64, .bf16⟩
  | .local _ .vmem, ⟨28, _⟩ => ⟨S1x64x2048, .f32⟩
  | .local _ .vmem, ⟨29, _⟩ => ⟨S1x64x2048, .f32⟩
  | .local _ .vmem, ⟨30, _⟩ => ⟨S1x4096x128, .bf16⟩
  | .local _ .vmem, ⟨31, _⟩ => ⟨S1x4096x128, .bf16⟩
  | .local _ .vmem, ⟨32, _⟩ => ⟨S1x1, .f32⟩
  | .local _ .vmem, ⟨33, _⟩ => ⟨S1x64x1024, .f32⟩
  | .local _ .vmem, ⟨34, _⟩ => ⟨S1x64x1024, .f32⟩
  | .local _ .vmem, ⟨35, _⟩ => ⟨S1x4096x128, .bf16⟩
  | .local _ .vmem, ⟨36, _⟩ => ⟨S1x4096x128, .bf16⟩
  | .local _ .vmem, ⟨37, _⟩ => ⟨S1x64x2048, .bf16⟩
  | .local _ .vmem, ⟨38, _⟩ => ⟨S1x64x2048, .bf16⟩
  | .local _ .vmem, ⟨39, _⟩ => ⟨S1x2048x64, .bf16⟩
  | .local _ .vmem, ⟨40, _⟩ => ⟨S1x2048x64, .bf16⟩
  | .local _ .vmem, ⟨41, _⟩ => ⟨S1x1024x64, .f32⟩
  | .local _ .vmem, ⟨42, _⟩ => ⟨S1x1024x64, .f32⟩
  | .local _ .vmem, ⟨43, _⟩ => ⟨S12x1024x64, .f32⟩
  | .local _ .vmem, ⟨44, _⟩ => ⟨S12x1024x64, .f32⟩
  | .local _ .vmem, ⟨45, _⟩ => ⟨S12x768x64, .bf16⟩
  | .local _ .vmem, ⟨46, _⟩ => ⟨S1x768, .f32⟩
  | .local _ .vmem, ⟨47, _⟩ => ⟨S1024x768, .f32⟩
  | .local _ .vmem, ⟨48, _⟩ => ⟨S1024x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg3_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem3_1 : DmaSem sig := 48

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x64x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![12], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4096x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![12, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 1 → Memref sig .tc .vmem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1x64x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x4096x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x64x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x2048x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x1024x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12x1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S12x768x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== ReferenceIdeal.lean ====
abbrev S1x2048x768 : Shape := ⟨3, ![1, 2048, 768]⟩
abbrev S768x768 : Shape := ⟨2, ![768, 768]⟩
abbrev S768 : Shape := ⟨1, ![768]⟩
abbrev S1 : Shape := ⟨1, ![1]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x128x16x64 : Shape := ⟨5, ![1, 12, 128, 16, 64]⟩
abbrev S_ : Shape := ⟨0, ![]⟩
abbrev S1x2048 : Shape := ⟨2, ![1, 2048]⟩
abbrev S1x1x2048 : Shape := ⟨3, ![1, 1, 2048]⟩
abbrev S1x12x2048 : Shape := ⟨3, ![1, 12, 2048]⟩
abbrev S1x12x128x16 : Shape := ⟨4, ![1, 12, 128, 16]⟩
abbrev S1x12x128 : Shape := ⟨3, ![1, 12, 128]⟩
abbrev S1x12x128x1 : Shape := ⟨4, ![1, 12, 128, 1]⟩
abbrev S1x12x128x16x1 : Shape := ⟨5, ![1, 12, 128, 16, 1]⟩
abbrev S1x12x128x64x64 : Shape := ⟨5, ![1, 12, 128, 64, 64]⟩
abbrev S1x12x2048x1 : Shape := ⟨4, ![1, 12, 2048, 1]⟩
abbrev S1x12x2048x64x1 : Shape := ⟨5, ![1, 12, 2048, 64, 1]⟩
abbrev S1x12x2048x1x64 : Shape := ⟨5, ![1, 12, 2048, 1, 64]⟩
abbrev S1x12x2048x64x64 : Shape := ⟨5, ![1, 12, 2048, 64, 64]⟩
abbrev S1x12x2048x128 : Shape := ⟨4, ![1, 12, 2048, 128]⟩
abbrev S1x1x1x1 : Shape := ⟨4, ![1, 1, 1, 1]⟩
abbrev S1x12x2048x4 : Shape := ⟨4, ![1, 12, 2048, 4]⟩
abbrev S1x12x1x128x16x64 : Shape := ⟨6, ![1, 12, 1, 128, 16, 64]⟩
abbrev S1x12x2048x4x1x1 : Shape := ⟨6, ![1, 12, 2048, 4, 1, 1]⟩
abbrev S12x2048x4x1 : Shape := ⟨4, ![12, 2048, 4, 1]⟩
abbrev S12x2048x4 : Shape := ⟨3, ![12, 2048, 4]⟩
abbrev S1x12x2048x4x16x64 : Shape := ⟨6, ![1, 12, 2048, 4, 16, 64]⟩
abbrev S1x12x1x128x16 : Shape := ⟨5, ![1, 12, 1, 128, 16]⟩
abbrev S1x12x2048x4x1 : Shape := ⟨5, ![1, 12, 2048, 4, 1]⟩
abbrev S1x12x2048x4x16 : Shape := ⟨5, ![1, 12, 2048, 4, 16]⟩
abbrev S1x12x2048x4x64 : Shape := ⟨5, ![1, 12, 2048, 4, 64]⟩

abbrev nBuf : Space → Nat
  | .hbm => 212
  | .vmem => 0
  | .smem => 0
  | _ => 0

abbrev hbmTy0_0 (i : Nat) : BufTy := match i % 128 with
  | 0 => ⟨S1x2048x768, .f32⟩
  | 1 => ⟨S1x2048x768, .f32⟩
  | 2 => ⟨S1x2048x768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x768, .f32⟩
  | 10 => ⟨S768, .f32⟩
  | 11 => ⟨S1, .f32⟩
  | 12 => ⟨S768x768, .f32⟩
  | 13 => ⟨S1x2048x768, .f32⟩
  | 14 => ⟨S1x1x768, .f32⟩
  | 15 => ⟨S1x2048x768, .f32⟩
  | 16 => ⟨S1x2048x768, .f32⟩
  | 17 => ⟨S1x2048x12x64, .f32⟩
  | 18 => ⟨S1x12x2048x64, .f32⟩
  | 19 => ⟨S768x768, .f32⟩
  | 20 => ⟨S1x2048x768, .f32⟩
  | 21 => ⟨S1x1x768, .f32⟩
  | 22 => ⟨S1x2048x768, .f32⟩
  | 23 => ⟨S1x2048x768, .f32⟩
  | 24 => ⟨S1x2048x12x64, .f32⟩
  | 25 => ⟨S1x12x2048x64, .f32⟩
  | 26 => ⟨S768x768, .f32⟩
  | 27 => ⟨S1x2048x768, .f32⟩
  | 28 => ⟨S1x1x768, .f32⟩
  | 29 => ⟨S1x2048x768, .f32⟩
  | 30 => ⟨S1x2048x768, .f32⟩
  | 31 => ⟨S1x2048x12x64, .f32⟩
  | 32 => ⟨S1x12x2048x64, .f32⟩
  | 33 => ⟨S1x12x128x16x64, .f32⟩
  | 34 => ⟨S1x12x128x16x64, .f32⟩
  | 35 => ⟨S_, .f32⟩
  | 36 => ⟨S1x2048, .f32⟩
  | 37 => ⟨S1x1x2048, .f32⟩
  | 38 => ⟨S1x12x2048, .f32⟩
  | 39 => ⟨S1x12x128x16, .f32⟩
  | 40 => ⟨S_, .f32⟩
  | 41 => ⟨S1x12x128, .f32⟩
  | 42 => ⟨S1x12x128x1, .f32⟩
  | 43 => ⟨S_, .f32⟩
  | 44 => ⟨S1x12x128x1, .f32⟩
  | 45 => ⟨S1x12x128x1, .f32⟩
  | 46 => ⟨S1x12x128x16, .f32⟩
  | 47 => ⟨S1x12x128x16, .f32⟩
  | 48 => ⟨S1x12x128x16x64, .f32⟩
  | 49 => ⟨S_, .f32⟩
  | 50 => ⟨S1x12x128x16, .f32⟩
  | 51 => ⟨S1x12x128x16x1, .f32⟩
  | 52 => ⟨S1x12x128x16x1, .f32⟩
  | 53 => ⟨S_, .f32⟩
  | 54 => ⟨S1x12x128x16x1, .f32⟩
  | 55 => ⟨S1x12x128x16x1, .f32⟩
  | 56 => ⟨S1x12x128x16x64, .f32⟩
  | 57 => ⟨S1x12x128x16x64, .f32⟩
  | 58 => ⟨S1x12x128x16x1, .f32⟩
  | 59 => ⟨S1x12x128x16x64, .f32⟩
  | 60 => ⟨S1x12x128x16x64, .f32⟩
  | 61 => ⟨S1x12x128x64x64, .f32⟩
  | 62 => ⟨S1x12x2048x64, .f32⟩
  | 63 => ⟨S_, .f32⟩
  | 64 => ⟨S1x12x2048, .f32⟩
  | 65 => ⟨S1x12x2048x1, .f32⟩
  | 66 => ⟨S1x12x2048x1, .f32⟩
  | 67 => ⟨S_, .f32⟩
  | 68 => ⟨S1x12x2048x1, .f32⟩
  | 69 => ⟨S1x12x2048x1, .f32⟩
  | 70 => ⟨S1x12x2048x64, .f32⟩
  | 71 => ⟨S1x12x2048x64, .f32⟩
  | 72 => ⟨S1x12x2048x64x1, .f32⟩
  | 73 => ⟨S1x12x2048x1x64, .f32⟩
  | 74 => ⟨S1x12x2048x64x64, .f32⟩
  | 75 => ⟨S1x12x2048x64x64, .f32⟩
  | 76 => ⟨S1x12x2048x64x64, .f32⟩
  | 77 => ⟨S1x12x2048x128, .f32⟩
  | 78 => ⟨S_, .f32⟩
  | 79 => ⟨S1, .f32⟩
  | 80 => ⟨S1, .f32⟩
  | 81 => ⟨S1x1x1x1, .f32⟩
  | 82 => ⟨S1x12x2048x128, .f32⟩
  | 83 => ⟨S1x12x2048x128, .f32⟩
  | 84 => ⟨S1x12x2048x4, .f32⟩
  | 85 => ⟨S1x12x2048x4, .i32⟩
  | 86 => ⟨S_, .f32⟩
  | 87 => ⟨S1x12x2048, .f32⟩
  | 88 => ⟨S_, .f32⟩
  | 89 => ⟨S1x12x2048, .f32⟩
  | 90 => ⟨S1x12x2048, .f32⟩
  | 91 => ⟨S1x12x2048x1, .f32⟩
  | 92 => ⟨S1x12x2048x4, .f32⟩
  | 93 => ⟨S1x12x2048x4, .f32⟩
  | 94 => ⟨S1x12x2048x4, .f32⟩
  | 95 => ⟨S_, .f32⟩
  | 96 => ⟨S1x12x2048, .f32⟩
  | 97 => ⟨S1x12x2048x1, .f32⟩
  | 98 => ⟨S1x12x2048x4, .f32⟩
  | 99 => ⟨S1x12x2048x4, .f32⟩
  | 100 => ⟨S1x12x1x128x16x64, .f32⟩
  | 101 => ⟨S1x12x2048x4x1x1, .i32⟩
  | 102 => ⟨S_, .i32⟩
  | 103 => ⟨S1x12x2048x4x1x1, .i32⟩
  | 104 => ⟨S1x12x2048x4x1x1, .i1⟩
  | 105 => ⟨S_, .i32⟩
  | 106 => ⟨S1x12x2048x4x1x1, .i32⟩
  | 107 => ⟨S1x12x2048x4x1x1, .i32⟩
  | 108 => ⟨S1x12x2048x4x1x1, .i32⟩
  | 109 => ⟨S12x2048x4x1, .i32⟩
  | 110 => ⟨S1x12x128x16x64, .f32⟩
  | 111 => ⟨S1, .i32⟩
  | 112 => ⟨S_, .i32⟩
  | 113 => ⟨S12x2048x4x1, .i32⟩
  | 114 => ⟨S12x2048x4x1, .i1⟩
  | 115 => ⟨S1x1x1x1, .i32⟩
  | 116 => ⟨S12x2048x4x1, .i32⟩
  | 117 => ⟨S12x2048x4x1, .i1⟩
  | 118 => ⟨S12x2048x4x1, .i1⟩
  | 119 => ⟨S_, .i1⟩
  | 120 => ⟨S12x2048x4, .i1⟩
  | 121 => ⟨S1x12x2048x4x16x64, .f32⟩
  | 122 => ⟨S1x12x2048x4x16x64, .i1⟩
  | 123 => ⟨S_, .f32⟩
  | 124 => ⟨S1x12x2048x4x16x64, .f32⟩
  | 125 => ⟨S1x12x2048x4x16x64, .f32⟩
  | 126 => ⟨S1x12x1x128x16x64, .f32⟩
  | 127 => ⟨S1x12x2048x4x1x1, .i32⟩
  | _ => ⟨S1x2048x768, .f32⟩

abbrev hbmTy0_1 (i : Nat) : BufTy := match i % 128 with
  | 0 => ⟨S_, .i32⟩
  | 1 => ⟨S1x12x2048x4x1x1, .i32⟩
  | 2 => ⟨S1x12x2048x4x1x1, .i1⟩
  | 3 => ⟨S_, .i32⟩
  | 4 => ⟨S1x12x2048x4x1x1, .i32⟩
  | 5 => ⟨S1x12x2048x4x1x1, .i32⟩
  | 6 => ⟨S1x12x2048x4x1x1, .i32⟩
  | 7 => ⟨S12x2048x4x1, .i32⟩
  | 8 => ⟨S1x12x128x16x64, .f32⟩
  | 9 => ⟨S1, .i32⟩
  | 10 => ⟨S_, .i32⟩
  | 11 => ⟨S12x2048x4x1, .i32⟩
  | 12 => ⟨S12x2048x4x1, .i1⟩
  | 13 => ⟨S1x1x1x1, .i32⟩
  | 14 => ⟨S12x2048x4x1, .i32⟩
  | 15 => ⟨S12x2048x4x1, .i1⟩
  | 16 => ⟨S12x2048x4x1, .i1⟩
  | 17 => ⟨S_, .i1⟩
  | 18 => ⟨S12x2048x4, .i1⟩
  | 19 => ⟨S1x12x2048x4x16x64, .f32⟩
  | 20 => ⟨S1x12x2048x4x16x64, .i1⟩
  | 21 => ⟨S_, .f32⟩
  | 22 => ⟨S1x12x2048x4x16x64, .f32⟩
  | 23 => ⟨S1x12x2048x4x16x64, .f32⟩
  | 24 => ⟨S1x12x1x128x16, .f32⟩
  | 25 => ⟨S1x12x2048x4x1, .i32⟩
  | 26 => ⟨S_, .i32⟩
  | 27 => ⟨S1x12x2048x4x1, .i32⟩
  | 28 => ⟨S1x12x2048x4x1, .i1⟩
  | 29 => ⟨S_, .i32⟩
  | 30 => ⟨S1x12x2048x4x1, .i32⟩
  | 31 => ⟨S1x12x2048x4x1, .i32⟩
  | 32 => ⟨S1x12x2048x4x1, .i32⟩
  | 33 => ⟨S12x2048x4x1, .i32⟩
  | 34 => ⟨S1x12x128x16, .f32⟩
  | 35 => ⟨S1, .i32⟩
  | 36 => ⟨S_, .i32⟩
  | 37 => ⟨S12x2048x4x1, .i32⟩
  | 38 => ⟨S12x2048x4x1, .i1⟩
  | 39 => ⟨S1x1x1x1, .i32⟩
  | 40 => ⟨S12x2048x4x1, .i32⟩
  | 41 => ⟨S12x2048x4x1, .i1⟩
  | 42 => ⟨S12x2048x4x1, .i1⟩
  | 43 => ⟨S_, .i1⟩
  | 44 => ⟨S12x2048x4, .i1⟩
  | 45 => ⟨S1x12x2048x4x16, .f32⟩
  | 46 => ⟨S1x12x2048x4x16, .i1⟩
  | 47 => ⟨S_, .f32⟩
  | 48 => ⟨S1x12x2048x4x16, .f32⟩
  | 49 => ⟨S1x12x2048x4x16, .f32⟩
  | 50 => ⟨S1x12x2048x4x16, .f32⟩
  | 51 => ⟨S_, .f32⟩
  | 52 => ⟨S1x12x2048x4x16, .f32⟩
  | 53 => ⟨S1x12x2048x4x16, .f32⟩
  | 54 => ⟨S_, .f32⟩
  | 55 => ⟨S1x12x2048x4x16, .f32⟩
  | 56 => ⟨S1x12x2048x4x16, .i1⟩
  | 57 => ⟨S_, .f32⟩
  | 58 => ⟨S_, .f32⟩
  | 59 => ⟨S1x12x2048x4x16, .f32⟩
  | 60 => ⟨S1x12x2048x4x16, .f32⟩
  | 61 => ⟨S_, .f32⟩
  | 62 => ⟨S1x12x2048x4, .f32⟩
  | 63 => ⟨S_, .f32⟩
  | 64 => ⟨S1x12x2048x4, .f32⟩
  | 65 => ⟨S1x12x2048x4, .f32⟩
  | 66 => ⟨S1x12x2048x4x1, .f32⟩
  | 67 => ⟨S1x12x2048x4x16, .f32⟩
  | 68 => ⟨S1x12x2048x4x16, .f32⟩
  | 69 => ⟨S1x12x2048x4x16, .f32⟩
  | 70 => ⟨S_, .f32⟩
  | 71 => ⟨S1x12x2048x4, .f32⟩
  | 72 => ⟨S1x12x2048x4x1, .f32⟩
  | 73 => ⟨S1x12x2048x4x16, .f32⟩
  | 74 => ⟨S1x12x2048x4x16, .f32⟩
  | 75 => ⟨S1x12x2048x4x64, .f32⟩
  | 76 => ⟨S1x12x2048x64, .f32⟩
  | 77 => ⟨S1x2048x12x64, .f32⟩
  | 78 => ⟨S1x2048x768, .f32⟩
  | 79 => ⟨S768x768, .f32⟩
  | 80 => ⟨S1x2048x768, .f32⟩
  | 81 => ⟨S1x1x768, .f32⟩
  | 82 => ⟨S1x2048x768, .f32⟩
  | 83 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_v0 : Ref sig .tc := ⟨.hbm, 62, rfl⟩
abbrev main_call1_cst : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_values : Ref sig .tc := ⟨.hbm, 84, rfl⟩
abbrev main_indices : Ref sig .tc := ⟨.hbm, 85, rfl⟩
abbrev main_cst_5 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_c_1 : Ref sig .tc := ⟨.hbm, 111, rfl⟩
abbrev main_call2_c_2 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_v12 : Ref sig .tc := ⟨.hbm, 118, rfl⟩
abbrev main_call2_c_3 : Ref sig .tc := ⟨.hbm, 119, rfl⟩
abbrev main_call2_v13 : Ref sig .tc := ⟨.hbm, 120, rfl⟩
abbrev main_call2_v14 : Ref sig .tc := ⟨.hbm, 121, rfl⟩
abbrev main_call2_v15 : Ref sig .tc := ⟨.hbm, 122, rfl⟩
abbrev main_call2_cst : Ref sig .tc := ⟨.hbm, 123, rfl⟩
abbrev main_call2_v16 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_c_1 : Ref sig .tc := ⟨.hbm, 137, rfl⟩
abbrev main_call3_c_2 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_c_3 : Ref sig .tc := ⟨.hbm, 145, rfl⟩
abbrev main_call3_v13 : Ref sig .tc := ⟨.hbm, 146, rfl⟩
abbrev main_call3_v14 : Ref sig .tc := ⟨.hbm, 147, rfl⟩
abbrev main_call3_v15 : Ref sig .tc := ⟨.hbm, 148, rfl⟩
abbrev main_call3_cst : Ref sig .tc := ⟨.hbm, 149, rfl⟩
abbrev main_call3_v16 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_call4_c : Ref sig .tc := ⟨.hbm, 154, rfl⟩
abbrev main_call4_v0 : Ref sig .tc := ⟨.hbm, 155, rfl⟩
abbrev main_call4_v1 : Ref sig .tc := ⟨.hbm, 156, rfl⟩
abbrev main_call4_c_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_c_1 : Ref sig .tc := ⟨.hbm, 163, rfl⟩
abbrev main_call4_c_2 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_v12 : Ref sig .tc := ⟨.hbm, 170, rfl⟩
abbrev main_call4_c_3 : Ref sig .tc := ⟨.hbm, 171, rfl⟩
abbrev main_call4_v13 : Ref sig .tc := ⟨.hbm, 172, rfl⟩
abbrev main_call4_v14 : Ref sig .tc := ⟨.hbm, 173, rfl⟩
abbrev main_call4_v15 : Ref sig .tc := ⟨.hbm, 174, rfl⟩
abbrev main_call4_cst : Ref sig .tc := ⟨.hbm, 175, rfl⟩
abbrev main_call4_v16 : Ref sig .tc := ⟨.hbm, 176, rfl⟩
abbrev main_v77 : Ref sig .tc := ⟨.hbm, 177, rfl⟩
abbrev main_v78 : Ref sig .tc := ⟨.hbm, 178, rfl⟩
abbrev main_cst_8 : Ref sig .tc := ⟨.hbm, 179, rfl⟩
abbrev main_v79 : Ref sig .tc := ⟨.hbm, 180, rfl⟩
abbrev main_v80 : Ref sig .tc := ⟨.hbm, 181, rfl⟩
abbrev main_cst_9 : Ref sig .tc := ⟨.hbm, 182, rfl⟩
abbrev main_v81 : Ref sig .tc := ⟨.hbm, 183, rfl⟩
abbrev main_v82 : Ref sig .tc := ⟨.hbm, 184, rfl⟩
abbrev main_cst_10 : Ref sig .tc := ⟨.hbm, 185, rfl⟩
abbrev main_call5_v0 : Ref sig .tc := ⟨.hbm, 186, rfl⟩
abbrev main_call5_v1 : Ref sig .tc := ⟨.hbm, 187, rfl⟩
abbrev main_v83 : Ref sig .tc := ⟨.hbm, 188, rfl⟩
abbrev main_cst_11 : Ref sig .tc := ⟨.hbm, 189, rfl⟩
abbrev main_v84 : Ref sig .tc := ⟨.hbm, 190, rfl⟩
abbrev main_cst_12 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_cst_13 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩

abbrev nD : Nat := 1
abbrev τ : Topo := Topo.v7x

variable {F : FTy → Type} [FloatOps F]
-- ==== Proof.Run.lean ====
/-
  A run of the kernel over the extended reals ends with its result array holding what the last boundary's contents say.
-/
module

public import proofs.«01_k».proof.Proof.Gen.KernelIdeal.Frame
public import Idealize.ShloMosaic.PureOps.Ideal

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

namespace Cert.KernelIdeal.Gen

/-- The resources of a run. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run from memory `m` ends, the result array at the last boundary's contents and the arguments as launched. -/
theorem run_result : θ_run defs (onTc (τ := τ) (main (F := Ideal))) ⟨m, fun _ => 0, ρ⟩ (fun r => ∀ c : Dev nD,
      r.2.mem ((c.tc : Thread nD τ).loc main_v26) = W12 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v26 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Gen
-- ==== Proof.Spec.lean ====
/-
  The vocabulary the two sides are stated in: where a head's columns, a window's rows and the regrouped rows lie, and
  what it is to scale a vector to unit length.
-/
module

public import Idealize.ShloMosaic.Lib.Pointwise

@[expose] public section

noncomputable section

open Idealize.ShloMosaic

namespace Cert.Attn

/-- Column `d` of head `h` among the 768 columns. -/
abbrev headCol (h : Fin 12) (d : Fin 64) : Fin 768 := ⟨h.val * 64 + d.val, by omega⟩

/-- Row `w` of window `n` in the sequence, window after window. -/
abbrev winRow (n : Fin 128) (w : Fin 16) : Fin 2048 := ⟨n.val * 16 + w.val, by omega⟩

/-- The same row when the rows are regrouped by their place in the window: first every window's row 0, and so on. -/
abbrev permRow (w : Fin 16) (n : Fin 128) : Fin 2048 := ⟨w.val * 128 + n.val, by omega⟩

/-- Entry `(i, j)` of a 64 by 64 matrix laid out in one line. -/
abbrev flat (i j : Fin 64) : Fin 4096 := ⟨i.val * 64 + j.val, by omega⟩

/-- The least length a vector is divided by. -/
def lenMin : EReal := Ideal.ofBits .f32 730643660#32

/-- One sixteenth, the weight of a window's row. -/
def sixteenth : EReal := Ideal.ofBits .f32 0x3D800000#32

/-- `x` scaled to unit length; a length below `lenMin` is replaced by it. -/
def unit (x : Fin 64 → EReal) (i : Fin 64) : EReal :=
  Ideal.div (x i) (max (Ideal.sqrt (∑ e, x e * x e)) lenMin)

/-- A window's ensemble: the mean over its rows of the products of a unit vector's entries. -/
def ens (k : Fin 16 → Fin 64 → EReal) (i j : Fin 64) : EReal :=
  (∑ w, unit (k w) i * unit (k w) j) * sixteenth

/-- A linear layer at row `s`, head `h`, column `d`. -/
def proj (x : Fin 2048 → Fin 768 → EReal) (W : Fin 768 → Fin 768 → EReal) (b : Fin 768 → EReal)
    (h : Fin 12) (s : Fin 2048) (d : Fin 64) : EReal :=
  (∑ e, x s e * W (headCol h d) e) + b (headCol h d)

/-- The least temperature a score is divided by. -/
def tempMin : EReal := Ideal.ofBits .f32 1036831949#32

/-- The value the maximum of a list starts from: minus infinity. -/
def bottom : EReal := Ideal.ofBits .f32 0xFF800000#32

/-- The scale of a query's product with a key, one eighth. -/
def eighth : EReal := Ideal.ofBits .f32 0x3E000000#32

/-- The largest entry of a list. -/
def top {n : ℕ} (x : Fin n → EReal) : EReal := Finset.univ.fold max bottom x

/-- A list's softmax: the exponentials of the distances to the largest entry, over their sum. -/
def soft {n : ℕ} (x : Fin n → EReal) (i : Fin n) : EReal :=
  Ideal.div (Ideal.exp (x i - top x)) (∑ j, Ideal.exp (x j - top x))

/-- A window's score for a query: the query's unit vector against the window's ensemble on both sides, over the
    temperature. -/
def score (q : Fin 64 → EReal) (E : Fin 64 → Fin 64 → EReal) (t : EReal) : EReal :=
  Ideal.div (∑ i, ∑ j, unit q i * unit q j * E i j) (max t tempMin)

/-- A query's scaled products with the 16 keys of a window. -/
def near (q : Fin 64 → EReal) (k : Fin 16 → Fin 64 → EReal) (w : Fin 16) : EReal := (∑ e, q e * k w e) * eighth

/-- A sum over the rows of a `a * b` long list, row group after row group. -/
theorem sum_flat {M : Type} [AddCommMonoid M] (a b c : ℕ) (hc : a * b = c) (f : Fin c → M) :
    ∑ r, f r = ∑ i : Fin a, ∑ j : Fin b, f ⟨i.val * b + j.val, by
      have h : (i.val + 1) * b ≤ a * b := Nat.mul_le_mul_right _ i.isLt
      rw [Nat.add_mul] at h; omega⟩ := by
  subst hc
  rw [← Fintype.sum_prod_type', ← finProdFinEquiv.sum_comp]
  exact Finset.sum_congr rfl fun p _ => congrArg f (Fin.ext (by
    show p.2.val + b * p.1.val = p.1.val * b + p.2.val
    rw [Nat.mul_comm, Nat.add_comm]))

end Cert.Attn
-- ==== Proof.Rounds.lean ====
/-
  The kernel's way of picking the four best windows: four times the largest entry is found, its first place marked,
  and the entry lowered.
-/
module

public import proofs.«01_k».proof.Proof.Spec

@[expose] public section

noncomputable section

open Idealize.ShloMosaic

namespace Cert.Attn

/-- What a picked entry is replaced by. -/
def low : EReal := Ideal.ofBits .f32 0xF149F2CA#32

/-- The first place of the largest entry, as a word. -/
def firstTop (x : Fin 128 → EReal) : BitVec 32 :=
  Finset.univ.fold IntOp.minsi 2147483647#32 fun m : Fin 128 => if x m = top x then BitVec.ofNat 32 m.val else 128#32

/-- Place `n` is the first one of the largest entry. -/
def hot (x : Fin 128 → EReal) (n : Fin 128) : BitVec 1 := IntOp.cmpi .eq (BitVec.ofNat 32 n.val) (firstTop x)

/-- The list with the first largest entry lowered. -/
def rest (x : Fin 128 → EReal) (n : Fin 128) : EReal := if hot x n = 1#1 then low else x n

/-- A mark as a number. -/
def mark (b : BitVec 1) : EReal := FloatOps.sitofp (F := Ideal) .f32 (BitVec.setWidth 32 b)

/-- The list after `r` rounds. -/
def after : ℕ → (Fin 128 → EReal) → (Fin 128 → EReal)
  | 0, x => x
  | r + 1, x => rest (after r x)

/-- The weight of round `r`'s pick before scaling. -/
def lift (x : Fin 128 → EReal) (r : ℕ) : EReal := Ideal.exp (top (after r x) - top x)

/-- A window's weight: the scaled weights of the rounds that picked it. -/
def weigh (x : Fin 128 → EReal) (n : Fin 128) : EReal :=
  Ideal.div (lift x 0 * mark (hot (after 0 x) n) + lift x 1 * mark (hot (after 1 x) n)
      + lift x 2 * mark (hot (after 2 x) n) + lift x 3 * mark (hot (after 3 x) n))
    (lift x 0 + lift x 1 + lift x 2 + lift x 3)

end Cert.Attn
-- ==== Proof.Consts.lean ====
/-
  What the literals of the two programs are as numbers, as far as the proof needs it.
-/
module

public import proofs.«01_k».proof.Proof.Rounds

@[expose] public section

noncomputable section

open Idealize.ShloMosaic

namespace Cert.Attn

/-- A maximum starts from minus infinity. -/
theorem bottom_eq : bottom = ⊥ := by
  simp [bottom, Ideal.ofBits, Ideal.ieee]

/-- The weight of a window's row is the real one sixteenth. -/
theorem sixteenth_eq : sixteenth = ((1 / 16 : ℝ) : EReal) := by
  simp [sixteenth, Ideal.ofBits, Ideal.ieee, -EReal.coe_mul]; norm_num

/-- The least length is a positive real. -/
theorem lenMin_pos : ∃ r : ℝ, 0 < r ∧ lenMin = (r : EReal) := by
  simp only [lenMin, Ideal.ofBits, Ideal.ieee]
  rw [if_neg (by decide), if_neg (by decide), if_neg (by decide)]
  exact ⟨_, by positivity, rfl⟩

/-- The least temperature is a positive real. -/
theorem tempMin_pos : ∃ r : ℝ, 0 < r ∧ tempMin = (r : EReal) := by
  simp only [tempMin, Ideal.ofBits, Ideal.ieee]
  rw [if_neg (by decide), if_neg (by decide), if_neg (by decide)]
  exact ⟨_, by positivity, rfl⟩

/-- What a picked entry is lowered to is negative. -/
theorem low_neg : low < 0 := by
  simp only [low, Ideal.ofBits, Ideal.ieee]
  rw [if_neg (by decide), if_neg (by decide), if_pos (by decide), neg_one_mul, neg_mul]
  exact EReal.coe_neg'.mpr (neg_lt_zero.mpr (by positivity))

end Cert.Attn
-- ==== Proof.Order.lean ====
/-
  The order a stable descending sort puts 128 scores in, and that the kernel's four rounds pick its first four.
-/
module

public import proofs.«01_k».proof.Proof.Consts
public import Idealize.ShloMosaic.Lib.SortFacts

@[expose] public section

noncomputable section

open Idealize.ShloMosaic

namespace Cert.Attn

/-- The place `i` comes before the place `j` in a stable descending sort: its entry is larger, or the same and earlier. -/
def Ahead {n : ℕ} (x : Fin n → EReal) (i j : Fin n) : Prop := x j < x i ∨ (x i = x j ∧ i < j)

/-- Coming before is transitive. -/
theorem Ahead.trans {n : ℕ} {x : Fin n → EReal} {i j k : Fin n} (h : Ahead x i j) (h' : Ahead x j k) : Ahead x i k := by
  rcases h with h | ⟨h, e⟩ <;> rcases h' with h' | ⟨h', e'⟩
  · exact .inl (h'.trans h)
  · exact .inl (h' ▸ h)
  · exact .inl (h ▸ h')
  · exact .inr ⟨h.trans h', e.trans e'⟩

/-- Putting a place in front of later ones keeps them in order. -/
theorem insert_ahead {n : ℕ} (x : Fin n → EReal) (a : Fin n) (l : List (Fin n)) (ha : ∀ b ∈ l, a < b) (hl : l.Pairwise (Ahead x)) :
    (insertBefore (fun i j => decide (x j < x i)) a l).Pairwise (Ahead x) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem _ hc)) hb.2⟩
      rcases List.mem_cons.mp ((perm_insertBefore _ a l).mem_iff.mp hc) with rfl | hc
      · exact .inl (of_decide_eq_true h)
      · exact hb.1 c hc
    · rename_i h
      have hab : Ahead x a b := by
        rcases lt_or_eq_of_le (not_lt.mp fun e => h (decide_eq_true e)) with e | e
        · exact .inl e
        · exact .inr ⟨e.symm, ha b List.mem_cons_self⟩
      refine List.pairwise_cons.mpr ⟨fun c hc => ?_, hl⟩
      rcases List.mem_cons.mp hc with rfl | hc
      · exact hab
      · exact hab.trans (hb.1 c hc)

/-- The stable sort of places listed in order leaves each ahead of the ones behind it. -/
theorem sort_ahead {n : ℕ} (x : Fin n → EReal) (l : List (Fin n)) (hl : l.Pairwise (· < ·)) :
    (stableSort (fun i j => decide (x j < x i)) l).Pairwise (Ahead x) := by
  induction l with
  | nil => exact List.Pairwise.nil
  | cons a l ih =>
    have h := List.pairwise_cons.mp hl
    exact insert_ahead x a _ (fun b hb => h.1 b ((perm_stableSort _ l).mem_iff.mp hb)) (ih h.2)

/-- Which entry a stable descending sort puts at each place. -/
def order {n : ℕ} (x : Fin n → EReal) : Fin n → Fin n := sortedFrom fun i j => decide (x j < x i)

/-- The sorted order visits no place twice. -/
theorem order_injective {n : ℕ} (x : Fin n → EReal) : Function.Injective (order x) := sortedFrom_injective _

/-- The sorted order visits every place. -/
theorem order_surjective {n : ℕ} (x : Fin n → EReal) : Function.Surjective (order x) := sortedFrom_surjective _

/-- An earlier place of the sort holds an entry ahead of a later place's. -/
theorem order_ahead {n : ℕ} (x : Fin n → EReal) (i j : Fin n) (h : i < j) : Ahead x (order x i) (order x j) :=
  List.pairwise_iff_get.mp (sort_ahead x (List.finRange n) (List.pairwise_lt_finRange n)) _ _ (by exact h)

/-- The largest entry, found by comparing. -/
theorem top_eq {n : ℕ} (y : Fin n → EReal) (m : Fin n) (hm : ∀ i, y i ≤ y m) : top y = y m := by
  refine le_antisymm (Finset.fold_max_le _ |>.mpr ⟨?_, fun i _ => hm i⟩) (Finset.le_fold_max _ |>.mpr (.inr ⟨m, Finset.mem_univ _, le_rfl⟩))
  rw [bottom_eq]
  exact bot_le

/-- A signed minimum over a set is the starting value or one of the set's, and no larger than any. -/
theorem fold_minsi (f : Fin 128 → BitVec 32) (b : BitVec 32) (s : Finset (Fin 128)) :
    (s.fold IntOp.minsi b f = b ∨ ∃ i ∈ s, s.fold IntOp.minsi b f = f i) ∧ ∀ i ∈ s, (s.fold IntOp.minsi b f).toInt ≤ (f i).toInt := by
  have hmin : ∀ u v : BitVec 32, (IntOp.minsi u v = u ∧ u.toInt ≤ v.toInt) ∨ (IntOp.minsi u v = v ∧ v.toInt ≤ u.toInt) := fun u v => by
    unfold IntOp.minsi
    simp only [BitVec.slt, BitVec.sle, decide_eq_true_eq]
    split
    · left; refine ⟨rfl, ?_⟩; omega
    · right; refine ⟨rfl, ?_⟩; omega
  induction s using Finset.induction_on with
  | empty => exact ⟨.inl rfl, fun i h => absurd h (Finset.notMem_empty i)⟩
  | insert a s ha ih =>
    rw [Finset.fold_insert ha]
    rcases hmin (f a) (s.fold IntOp.minsi b f) with ⟨e, h⟩ | ⟨e, h⟩ <;> rw [e]
    · refine ⟨.inr ⟨a, Finset.mem_insert_self _ _, rfl⟩, fun i hi => ?_⟩
      rcases Finset.mem_insert.mp hi with rfl | hi
      · exact le_rfl
      · exact h.trans (ih.2 i hi)
    · refine ⟨ih.1.imp id fun ⟨i, hi, e⟩ => ⟨i, Finset.mem_insert_of_mem hi, e⟩, fun i hi => ?_⟩
      rcases Finset.mem_insert.mp hi with rfl | hi
      · exact h
      · exact ih.2 i hi

/-- A small number's word, read as a signed number, is the number. -/
theorem toInt_small (i : ℕ) (h : i ≤ 128) : (BitVec.ofNat 32 i).toInt = i := by
  rw [BitVec.toInt_eq_toNat_of_lt (by rw [BitVec.toNat_ofNat]; omega), BitVec.toNat_ofNat]
  omega

/-- The first place of the largest entry, found by comparing. -/
theorem firstTop_eq (y : Fin 128 → EReal) (m : Fin 128) (hm : ∀ i, y i ≤ y m) (hf : ∀ i, y i = y m → m ≤ i) :
    firstTop y = BitVec.ofNat 32 m.val := by
  unfold firstTop
  rw [top_eq y m hm]
  obtain ⟨h, hle⟩ := fold_minsi (fun i : Fin 128 => if y i = y m then BitVec.ofNat 32 i.val else 128#32) 2147483647#32 Finset.univ
  have hm' := hle m (Finset.mem_univ _)
  generalize Finset.fold IntOp.minsi _ _ _ = w at h hm' ⊢
  simp only [if_true] at hm'
  rw [toInt_small _ (by omega)] at hm'
  rcases h with rfl | ⟨i, -, rfl⟩
  · have h' : (2147483647#32).toInt = 2147483647 := by decide
    omega
  · split at hm'
    · rename_i e
      rw [if_pos e]
      rw [toInt_small _ (by omega)] at hm'
      have := hf i e
      congr 1
      omega
    · have h' : (128#32).toInt = 128 := by decide
      omega

/-- The mark of the first largest entry, found by comparing. -/
theorem hot_eq (y : Fin 128 → EReal) (m : Fin 128) (hm : ∀ i, y i ≤ y m) (hf : ∀ i, y i = y m → m ≤ i) (n : Fin 128) :
    hot y n = BitVec.ofBool (decide (n = m)) := by
  unfold hot
  rw [firstTop_eq y m hm hf]
  have : (BitVec.ofNat 32 n.val = BitVec.ofNat 32 m.val) ↔ n = m := by
    refine ⟨fun h => Fin.ext ?_, fun h => h ▸ rfl⟩
    have := congrArg BitVec.toNat h
    rw [BitVec.toNat_ofNat, BitVec.toNat_ofNat] at this
    omega
  by_cases e : n = m
  · subst e; simp [IntOp.cmpi]
  · rw [decide_eq_false e]
    exact congrArg BitVec.ofBool (beq_eq_false_iff_ne.mpr fun h => e (this.mp h))

/-- Round `r` finds the list with the sort's first `r` entries lowered. -/
def lowered (x : Fin 128 → EReal) (r : ℕ) (i : Fin 128) : Prop := ∃ k : Fin 128, k.val < r ∧ i = order x k

section
variable (x : Fin 128 → EReal) (hx : ∀ i, low < x i)
include hx

/-- Where the sort's first `r` entries are lowered, its next one is the largest, and the first of the largest. -/
theorem next_largest (r : Fin 128) (y : Fin 128 → EReal) (h1 : ∀ i, lowered x r i → y i = low) (h2 : ∀ i, ¬ lowered x r i → y i = x i) :
    y (order x r) = x (order x r) ∧ (∀ i, y i ≤ y (order x r)) ∧ ∀ i, y i = y (order x r) → order x r ≤ i := by
  have h0 : y (order x r) = x (order x r) := h2 _ fun ⟨k, hk, e⟩ => by
    have := order_injective x e
    subst this
    exact lt_irrefl _ hk
  have key : ∀ i, ¬ lowered x r i → i = order x r ∨ Ahead x (order x r) i := fun i hi => by
    obtain ⟨k, rfl⟩ := order_surjective x i
    rcases lt_trichotomy k r with h | h | h
    · exact absurd ⟨k, h, rfl⟩ hi
    · exact .inl (h ▸ rfl)
    · exact .inr (order_ahead x r k h)
  refine ⟨h0, fun i => ?_, fun i e => ?_⟩
  · rw [h0]
    by_cases hi : lowered x r i
    · rw [h1 i hi]; exact (hx _).le
    · rw [h2 i hi]
      rcases key i hi with h | h | h
      · rw [h]
      · exact h.le
      · exact h.1.ge
  · rw [h0] at e
    by_cases hi : lowered x r i
    · rw [h1 i hi] at e; exact absurd e (hx _).ne
    · rw [h2 i hi] at e
      rcases key i hi with h | h | h
      · rw [h]
      · exact absurd e h.ne
      · exact h.2.le

/-- The list after `r` rounds is the scores with the sort's first `r` lowered. -/
theorem after_eq (r : ℕ) (hr : r < 128) : (∀ i, lowered x r i → after r x i = low) ∧ ∀ i, ¬ lowered x r i → after r x i = x i := by
  induction r with
  | zero => exact ⟨fun i ⟨k, h, _⟩ => absurd h (Nat.not_lt_zero _), fun i _ => rfl⟩
  | succ r ih =>
    obtain ⟨h1, h2⟩ := ih (by omega)
    obtain ⟨-, hm, hf⟩ := next_largest x hx ⟨r, by omega⟩ (after r x) h1 h2
    have hh : ∀ i, after (r + 1) x i = if i = order x ⟨r, by omega⟩ then low else after r x i := fun i => by
      show rest (after r x) i = _
      unfold rest
      rw [hot_eq _ _ hm hf]
      generalize order x ⟨r, by omega⟩ = m
      by_cases e : i = m
      · rw [if_pos e, decide_eq_true e]; rfl
      · rw [if_neg e, decide_eq_false e]; rfl
    constructor
    · intro i hi
      rw [hh]
      split
      · rfl
      · rename_i hne
        obtain ⟨k, hk, e⟩ := hi
        refine h1 i ⟨k, lt_of_le_of_ne (Nat.lt_succ_iff.mp hk) fun hkr => hne (e.trans (congrArg (order x) (Fin.ext hkr))), e⟩
    · intro i hi
      have hne : i ≠ order x ⟨r, by omega⟩ := fun e => hi ⟨⟨r, by omega⟩, Nat.lt_succ_self r, e⟩
      rw [hh, if_neg hne]
      exact h2 i fun ⟨k, hk, e⟩ => hi ⟨k, Nat.lt_succ_of_lt hk, e⟩

/-- Round `r` finds the sort's entry `r`. -/
theorem top_after (r : Fin 128) : top (after r x) = x (order x r) := by
  obtain ⟨h1, h2⟩ := after_eq x hx r r.isLt
  obtain ⟨h0, hm, -⟩ := next_largest x hx r _ h1 h2
  rw [top_eq _ _ hm, h0]

/-- Round `r` marks the sort's entry `r`. -/
theorem hot_after (r n : Fin 128) : hot (after r x) n = BitVec.ofBool (decide (n = order x r)) := by
  obtain ⟨h1, h2⟩ := after_eq x hx r r.isLt
  obtain ⟨-, hm, hf⟩ := next_largest x hx r _ h1 h2
  exact hot_eq _ _ hm hf n

end

end Cert.Attn
-- ==== Proof.Attend.lean ====
/-
  One query's result: the kernel's weighted sum over all 128 windows is the sum over the four best ones.
-/
module

public import proofs.«01_k».proof.Proof.Order

@[expose] public section

noncomputable section

open Idealize.ShloMosaic

namespace Cert.Attn

/-- A factor that is not negative and not infinite goes into a sum, whatever the sum's terms. -/
theorem mul_sum_of_nonneg {ι : Type} [DecidableEq ι] (s : Finset ι) (c : EReal) (hc : 0 ≤ c) (ht : c ≠ ⊤) (f : ι → EReal) :
    c * ∑ i ∈ s, f i = ∑ i ∈ s, c * f i := by
  induction s using Finset.induction_on with
  | empty => simp
  | insert a s ha ih => rw [Finset.sum_insert ha, Finset.sum_insert ha, EReal.left_distrib_of_nonneg_of_ne_top hc ht, ih]

/-- A sum of reals is a real. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A mark as a number: one where it is set, zero elsewhere. -/
theorem mark_eq (p : Prop) [Decidable p] : mark (BitVec.ofBool (decide p)) = if p then 1 else 0 := by
  have h1 : mark 1#1 = 1 := by
    show (((BitVec.setWidth 32 1#1).toInt : ℝ) : EReal) = 1
    rw [show (BitVec.setWidth 32 1#1).toInt = 1 by decide]; simp
  have h0 : mark 0#1 = 0 := by
    show (((BitVec.setWidth 32 0#1).toInt : ℝ) : EReal) = 0
    rw [show (BitVec.setWidth 32 0#1).toInt = 0 by decide]; simp
  by_cases h : p
  · rw [if_pos h, decide_eq_true h]; exact h1
  · rw [if_neg h, decide_eq_false h]; exact h0

/-- The place of the `k`-th best of 128 windows. -/
abbrev best (x : Fin 128 → EReal) (k : Fin 4) : Fin 128 := order x ⟨k.val, by omega⟩

/-- The four best windows are different ones. -/
theorem best_injective (x : Fin 128 → EReal) : Function.Injective (best x) := fun a b h => by
  have := congrArg Fin.val (order_injective x h)
  exact Fin.ext this

section
variable (x : Fin 128 → EReal) (r : Fin 128 → ℝ) (hr : ∀ i, x i = (r i : EReal)) (h0 : ∀ i, 0 ≤ r i)
include hr h0

/-- What a picked entry is lowered to lies below every score, scores being non-negative. -/
theorem low_lt (i : Fin 128) : low < x i := by
  rw [hr]
  exact low_neg.trans_le (EReal.coe_nonneg.mpr (h0 i))

/-- The largest of the four best scores is the first of them. -/
theorem best_top : top (fun k => x (best x k)) = x (best x 0) := by
  refine top_eq (fun k => x (best x k)) 0 fun k => ?_
  rcases Nat.eq_zero_or_pos k.val with h | h
  · rw [Fin.ext (a := k) (b := 0) h]
  · rcases order_ahead x ⟨0, by omega⟩ ⟨k.val, by omega⟩ h with h | h
    · exact h.le
    · exact h.1.ge

/-- The weight of the `k`-th best window before scaling. -/
def liftR (k : Fin 4) : ℝ := Real.exp (r (best x k) - r (best x 0))

/-- What the kernel's round `k` exponentiates is the distance of the `k`-th best score to the best. -/
theorem lift_eq (k : Fin 4) : lift x k = (liftR x r k : EReal) := by
  unfold lift
  rw [show after k.val x = after (⟨k.val, by omega⟩ : Fin 128).val x from rfl, top_after x (low_lt x r hr h0),
    show top x = x (best x 0) from top_after x (low_lt x r hr h0) 0, hr, hr, ← EReal.coe_sub]
  rfl

/-- So is what the softmax of the four best scores exponentiates. -/
theorem exp_eq (k : Fin 4) : Ideal.exp (x (best x k) - top fun k => x (best x k)) = (liftR x r k : EReal) := by
  rw [best_top x r hr h0, hr, hr, ← EReal.coe_sub]
  rfl

/-- The scale of the weights: their sum. -/
def scaleR : ℝ := ∑ k, liftR x r k

omit hr h0 in
/-- The sum of the weights is positive. -/
theorem scale_pos : 0 < scaleR x r := Finset.sum_pos (fun k _ => Real.exp_pos _) Finset.univ_nonempty

/-- The four best windows' softmax is real. -/
theorem soft_best (k : Fin 4) : soft (fun k => x (best x k)) k = ((liftR x r k * (1 / scaleR x r) : ℝ) : EReal) := by
  unfold soft
  simp only [exp_eq x r hr h0]
  rw [sum_real]
  show Ideal.div _ ((scaleR x r : ℝ) : EReal) = _
  rw [Ideal.div_coe (scale_pos x r).ne', ← EReal.coe_mul]

/-- A window's weight is its share of the softmax if it is one of the four best, and nothing otherwise. -/
theorem weigh_eq (n : Fin 128) : weigh x n = ∑ k, if n = best x k then soft (fun k => x (best x k)) k else 0 := by
  have hz : lift x 0 + lift x 1 + lift x 2 + lift x 3 = (scaleR x r : EReal) := by
    have : scaleR x r = liftR x r 0 + liftR x r 1 + liftR x r 2 + liftR x r 3 := by
      unfold scaleR; simp [Fin.sum_univ_succ]; ring
    rw [this]
    simp only [EReal.coe_add, ← lift_eq x r hr h0]
    rfl
  have hm : ∀ k : Fin 4, lift x k * mark (hot (after k x) n) = ((if n = best x k then liftR x r k else 0 : ℝ) : EReal) := fun k => by
    rw [lift_eq x r hr h0, show hot (after k.val x) n = _ from hot_after x (low_lt x r hr h0) ⟨k.val, by omega⟩ n, mark_eq]
    split <;> simp
  have hn : lift x 0 * mark (hot (after 0 x) n) + lift x 1 * mark (hot (after 1 x) n)
      + lift x 2 * mark (hot (after 2 x) n) + lift x 3 * mark (hot (after 3 x) n) = ((∑ k, if n = best x k then liftR x r k else 0 : ℝ) : EReal) := by
    rw [← sum_real]
    simp only [← hm]
    simp only [Fin.sum_univ_castSucc, Finset.univ_eq_empty, Finset.sum_empty, zero_add]
    rfl
  unfold weigh
  rw [hn, hz, Ideal.div_coe (scale_pos x r).ne', ← EReal.coe_mul, Finset.sum_mul, ← sum_real]
  refine Finset.sum_congr rfl fun k _ => ?_
  rw [soft_best x r hr h0]
  split <;> simp

/-- A window's weight is a real that is not negative. -/
theorem weigh_nonneg (n : Fin 128) : 0 ≤ weigh x n ∧ weigh x n ≠ ⊤ := by
  have : weigh x n = ((∑ k, if n = best x k then liftR x r k * (1 / scaleR x r) else 0 : ℝ) : EReal) := by
    rw [weigh_eq x r hr h0, ← sum_real]
    refine Finset.sum_congr rfl fun k _ => ?_
    rw [soft_best x r hr h0]
    split <;> simp
  rw [this]
  refine ⟨EReal.coe_nonneg.mpr (Finset.sum_nonneg fun k _ => ?_), EReal.coe_ne_top _⟩
  split
  · exact mul_nonneg (Real.exp_pos _).le (one_div_nonneg.mpr (scale_pos x r).le)
  · exact le_rfl

/-- A sum over all windows under the weights is the sum over the four best under the softmax. -/
theorem weigh_sum (g : Fin 128 → EReal) : ∑ n, weigh x n * g n = ∑ k, soft (fun k => x (best x k)) k * g (best x k) := by
  have h : ∀ n, weigh x n * g n = ∑ k, if n = best x k then soft (fun k => x (best x k)) k * g n else 0 := fun n => by
    rw [weigh_eq x r hr h0]
    by_cases hk : ∃ k, n = best x k
    · obtain ⟨k, hk⟩ := hk
      have hne : ∀ b ∈ Finset.univ, b ≠ k → ¬ n = best x b := fun b _ hb e => hb (best_injective x (e.symm.trans hk))
      rw [Finset.sum_eq_single k (fun b hb hbk => if_neg (hne b hb hbk)) (fun h => absurd (Finset.mem_univ _) h),
        Finset.sum_eq_single k (fun b hb hbk => if_neg (hne b hb hbk)) (fun h => absurd (Finset.mem_univ _) h), if_pos hk, if_pos hk]
    · rw [Finset.sum_eq_zero fun k _ => if_neg fun e => hk ⟨k, e⟩, Finset.sum_eq_zero fun k _ => if_neg fun e => hk ⟨k, e⟩, zero_mul]
  simp only [h]
  rw [Finset.sum_comm]
  refine Finset.sum_congr rfl fun k _ => ?_
  rw [Finset.sum_ite_eq' Finset.univ (best x k), if_pos (Finset.mem_univ _)]

/-- The kernel's sum over every row of every window is the sum over the four best windows of their softmax times the
    window's own softmax of its rows. -/
theorem attend_eq (f v : Fin 128 → Fin 16 → EReal) :
    ∑ w, ∑ n, f n w * weigh x n * v n w = ∑ k, soft (fun k => x (best x k)) k * ∑ w, f (best x k) w * v (best x k) w := by
  rw [← weigh_sum x r hr h0 fun n => ∑ w, f n w * v n w, Finset.sum_comm]
  refine Finset.sum_congr rfl fun n _ => ?_
  obtain ⟨hc, ht⟩ := weigh_nonneg x r hr h0 n
  rw [mul_sum_of_nonneg _ _ hc ht]
  refine Finset.sum_congr rfl fun w _ => ?_
  rw [mul_comm (f n w), mul_assoc]

end

end Cert.Attn
-- ==== Proof.Score.lean ====
/-
  A window's score is a real that is not negative, whatever the inputs: unit vectors are real even where the vector is
  not, and the score is a sum of squares over a positive temperature.
-/
module

public import proofs.«01_k».proof.Proof.Attend

@[expose] public section

noncomputable section

open Idealize.ShloMosaic

namespace Cert.Attn

/-- A square is non-negative. -/
theorem sq_nonneg' (a : EReal) : 0 ≤ a * a := by
  rcases le_total 0 a with h | h
  · exact mul_nonneg h h
  · rw [← neg_mul_neg]
    have := EReal.neg_nonneg.mpr h
    exact mul_nonneg this this

/-- The larger of two reals is the same among the extended reals. -/
theorem coe_max (a b : ℝ) : ((max a b : ℝ) : EReal) = max (a : EReal) (b : EReal) :=
  EReal.coe_strictMono.monotone.map_max

/-- Dividing by plus infinity leaves nothing. -/
theorem div_top (a : EReal) : Ideal.div a ⊤ = 0 := by
  unfold Ideal.div
  rw [if_neg (by simp), EReal.inv_top, mul_zero]

/-- An entry of a unit vector is real. -/
theorem unit_real (x : Fin 64 → EReal) (i : Fin 64) : ∃ r : ℝ, unit x i = (r : EReal) := by
  obtain ⟨ε, hε, hl⟩ := lenMin_pos
  unfold unit
  rw [hl]
  by_cases h : ∃ e, x e = ⊤ ∨ x e = ⊥
  · obtain ⟨e, he⟩ := h
    have hs : x e * x e = ⊤ := by rcases he with h | h <;> rw [h] <;> rfl
    have ht : ∑ e, x e * x e = ⊤ := top_le_iff.mp (hs ▸ Finset.single_le_sum (f := fun e => x e * x e) (fun e _ => sq_nonneg' (x e)) (Finset.mem_univ e))
    rw [ht]
    refine ⟨0, ?_⟩
    rw [show max (Ideal.sqrt ⊤) ((ε : ℝ) : EReal) = ⊤ from max_eq_left le_top, div_top]
    rfl
  · have hx : ∀ e, ∃ r : ℝ, x e = (r : EReal) := fun e => by
      refine ⟨(x e).toReal, (EReal.coe_toReal (fun h' => h ⟨e, .inl h'⟩) fun h' => h ⟨e, .inr h'⟩).symm⟩
    choose r hr using hx
    simp only [hr, ← EReal.coe_mul]
    rw [sum_real]
    have hs : Ideal.sqrt ((∑ e, r e * r e : ℝ) : EReal) = ((Real.sqrt (∑ e, r e * r e) : ℝ) : EReal) := by
      have h0 : 0 ≤ ∑ e, r e * r e := Finset.sum_nonneg fun e _ => mul_self_nonneg _
      show (if _ then _ else _) = _
      rw [if_neg (not_lt.mpr h0)]
    rw [hs, ← coe_max, Ideal.div_coe (lt_of_lt_of_le hε (le_max_right _ _)).ne']
    exact ⟨_, (EReal.coe_mul _ _).symm⟩

/-- A real that is not negative stays one when divided by a temperature. -/
theorem div_temp (a : ℝ) (ha : 0 ≤ a) (t : EReal) : ∃ r : ℝ, 0 ≤ r ∧ Ideal.div (a : EReal) (max t tempMin) = (r : EReal) := by
  obtain ⟨τ, hτ, ht⟩ := tempMin_pos
  rw [ht]
  induction t using EReal.rec with
  | bot =>
    rw [show max ⊥ ((τ : ℝ) : EReal) = ((τ : ℝ) : EReal) from max_eq_right bot_le, Ideal.div_coe hτ.ne', ← EReal.coe_mul]
    exact ⟨_, mul_nonneg ha (one_div_nonneg.mpr hτ.le), rfl⟩
  | top =>
    rw [show max ⊤ ((τ : ℝ) : EReal) = ⊤ from max_eq_left le_top, div_top]
    exact ⟨0, le_rfl, rfl⟩
  | coe t =>
    have h := lt_of_lt_of_le hτ (le_max_right t τ)
    rw [← coe_max, Ideal.div_coe h.ne', ← EReal.coe_mul]
    exact ⟨_, mul_nonneg ha (one_div_nonneg.mpr h.le), rfl⟩

/-- A window's score is a real that is not negative. -/
theorem score_real (q : Fin 64 → EReal) (k : Fin 16 → Fin 64 → EReal) (t : EReal) :
    ∃ r : ℝ, 0 ≤ r ∧ score q (ens k) t = (r : EReal) := by
  choose u hu using unit_real q
  choose g hg using fun w => unit_real (k w)
  have h : ∑ i, ∑ j, unit q i * unit q j * ens k i j = ((∑ i, ∑ j, u i * u j * ((∑ w, g w i * g w j) * (1 / 16)) : ℝ) : EReal) := by
    unfold ens
    simp only [hu, hg, sixteenth_eq, ← EReal.coe_mul, sum_real]
  have hp : 0 ≤ ∑ i, ∑ j, u i * u j * ((∑ w, g w i * g w j) * (1 / 16)) := by
    have e : ∑ i, ∑ j, u i * u j * ((∑ w, g w i * g w j) * (1 / 16)) = (∑ w, (∑ i, u i * g w i) * ∑ j, u j * g w j) * (1 / 16) := by
      simp only [Finset.sum_mul_sum, Finset.sum_mul, Finset.mul_sum]
      have h1 : ∀ f : Fin 64 → Fin 64 → Fin 16 → ℝ, ∑ i, ∑ j, ∑ w, f i j w = ∑ w, ∑ i, ∑ j, f i j w := fun f => by
        rw [Finset.sum_congr rfl fun i _ => Finset.sum_comm, Finset.sum_comm]
      rw [h1]
      refine Finset.sum_congr rfl fun w _ => Finset.sum_congr rfl fun i _ => Finset.sum_congr rfl fun j _ => ?_
      ring
    rw [e]
    exact mul_nonneg (Finset.sum_nonneg fun w _ => mul_self_nonneg _) (by norm_num)
  unfold score
  rw [h]
  exact div_temp _ hp t

end Cert.Attn
-- ==== Proof.Answer.lean ====
/-
  The number both sides compute at a row and a column, and how the kernel's way of adding it up reaches it.
-/
module

public import proofs.«01_k».proof.Proof.Score
public import proofs.«01_k».proof.Proof.Attend

@[expose] public section

noncomputable section

open Idealize.ShloMosaic

namespace Cert.Attn

/-- The scores of all 128 windows for a query. -/
def scoresOf (t : EReal) (q : Fin 64 → EReal) (k : Fin 128 → Fin 16 → Fin 64 → EReal) (n : Fin 128) : EReal :=
  score q (ens (k n)) t

/-- One query's result at one column: over its four best windows, the softmax of their scores times what the query's
    softmax over the window's keys makes of the window's values. -/
def attended (t : EReal) (q : Fin 64 → EReal) (k v : Fin 128 → Fin 16 → Fin 64 → EReal) (d : Fin 64) : EReal :=
  ∑ i, soft (fun i => scoresOf t q k (best (scoresOf t q k) i)) i
    * ∑ w, soft (near q (k (best (scoresOf t q k) i))) w * v (best (scoresOf t q k) i) w d

/-- One row and head of the attention: `attended` on the head's projected query, keys and values. -/
def headOut (x0 x1 x2 : Fin 2048 → Fin 768 → EReal) (w3 : Fin 768 → Fin 768 → EReal) (b4 : Fin 768 → EReal)
    (w5 : Fin 768 → Fin 768 → EReal) (b6 : Fin 768 → EReal) (w7 : Fin 768 → Fin 768 → EReal) (b8 : Fin 768 → EReal)
    (t : EReal) (h : Fin 12) (s : Fin 2048) : Fin 64 → EReal :=
  attended t (proj x0 w3 b4 h s) (fun n w => proj x1 w5 b6 h (winRow n w)) (fun n w => proj x2 w7 b8 h (winRow n w))

/-- The result at row `s` and column `o`: the output layer on the heads' results. -/
def answer (x0 x1 x2 : Fin 2048 → Fin 768 → EReal) (w3 : Fin 768 → Fin 768 → EReal) (b4 : Fin 768 → EReal)
    (w5 : Fin 768 → Fin 768 → EReal) (b6 : Fin 768 → EReal) (w7 : Fin 768 → Fin 768 → EReal) (b8 : Fin 768 → EReal)
    (w9 : Fin 768 → Fin 768 → EReal) (b10 : Fin 768 → EReal) (t : EReal) (s : Fin 2048) (o : Fin 768) : EReal :=
  (∑ h, ∑ d, headOut x0 x1 x2 w3 b4 w5 b6 w7 b8 t h s d * w9 o (headCol h d)) + b10 o

/-- The kernel's sum over every window's rows, shares times weights times values, is `attended`. -/
theorem all_windows (t : EReal) (q : Fin 64 → EReal) (k v : Fin 128 → Fin 16 → Fin 64 → EReal) (d : Fin 64) :
    ∑ w, ∑ n, soft (near q (k n)) w * weigh (scoresOf t q k) n * v n w d = attended t q k v d := by
  choose r h0 hr using fun n => score_real q (k n) t
  exact attend_eq (scoresOf t q k) r hr h0 (fun n => soft (near q (k n))) fun n w => v n w d

end Cert.Attn
-- ==== Proof.Host.lean ====
/-
  What the host operations between the kernels leave: regrouped rows, and weights and biases cut into heads.
-/
module

public import proofs.«01_k».proof.Proof.Spec
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem

namespace Cert.KernelIdeal.Host

open Cert.KernelIdeal Cert.KernelIdeal.Gen Cert.Attn

variable (W : Valuation τ sig (Elt Ideal))

/-- The query rows. -/
theorem v8 (s : Fin 2048) (e : Fin 768) :
    (StableHlo.after hostOps0 W (Proc.devRef .tc main_v8) : S2048x768.Idx → EReal) (ix2 s e)
      = (W (Proc.devRef .tc main_arg0) : S1x2048x768.Idx → EReal) (ix3 0 s e) := by
  simp only [hostOps0]
  after_results_simp
  generalize (W (Proc.devRef .tc main_arg0) : S1x2048x768.Idx → EReal) = x
  pointwise

/-- A regrouped row is the row of the same place in the same window. -/
theorem regrouped (w : Fin 16) (n : Fin 128) (h : ((w.val * 128 + n.val) % 128) * 16 + (w.val * 128 + n.val) / 128 < 2048) :
    (⟨((w.val * 128 + n.val) % 128) * 16 + (w.val * 128 + n.val) / 128, h⟩ : Fin 2048) = winRow n w := Fin.ext (by
  show ((w.val * 128 + n.val) % 128) * 16 + (w.val * 128 + n.val) / 128 = n.val * 16 + w.val
  have := n.isLt
  omega)

/-- The key rows, regrouped. -/
theorem v3 (w : Fin 16) (n : Fin 128) (e : Fin 768) :
    (StableHlo.after hostOps0 W (Proc.devRef .tc main_v3) : S2048x768.Idx → EReal) (ix2 (permRow w n) e)
      = (W (Proc.devRef .tc main_arg1) : S1x2048x768.Idx → EReal) (ix3 0 (winRow n w) e) := by
  simp only [hostOps0]
  after_results_simp
  generalize (W (Proc.devRef .tc main_arg1) : S1x2048x768.Idx → EReal) = x
  pointwise
  rw [regrouped]

/-- The value rows, regrouped. -/
theorem v7 (w : Fin 16) (n : Fin 128) (e : Fin 768) :
    (StableHlo.after hostOps0 W (Proc.devRef .tc main_v7) : S2048x768.Idx → EReal) (ix2 (permRow w n) e)
      = (W (Proc.devRef .tc main_arg2) : S1x2048x768.Idx → EReal) (ix3 0 (winRow n w) e) := by
  simp only [hostOps0]
  after_results_simp
  generalize (W (Proc.devRef .tc main_arg2) : S1x2048x768.Idx → EReal) = x
  pointwise
  rw [regrouped]

/-- The query weights by head. -/
theorem v9 (h : Fin 12) (d : Fin 64) (e : Fin 768) :
    (StableHlo.after hostOps0 W (Proc.devRef .tc main_v9) : S12x64x768.Idx → EReal) (ix3 h d e)
      = (W (Proc.devRef .tc main_arg3) : S768x768.Idx → EReal) (ix2 (headCol h d) e) := by
  simp only [hostOps0]
  after_results_simp
  generalize (W (Proc.devRef .tc main_arg3) : S768x768.Idx → EReal) = x
  pointwise

/-- The query bias by head. -/
theorem v10 (h : Fin 12) (d : Fin 64) :
    (StableHlo.after hostOps0 W (Proc.devRef .tc main_v10) : S12x64x1.Idx → EReal) (ix3 h d 0)
      = (W (Proc.devRef .tc main_arg4) : S768.Idx → EReal) (ix1 (headCol h d)) := by
  simp only [hostOps0]
  after_results_simp
  generalize (W (Proc.devRef .tc main_arg4) : S768.Idx → EReal) = x
  pointwise

/-- The key weights by head. -/
theorem v12 (h : Fin 12) (d : Fin 64) (e : Fin 768) :
    (StableHlo.after hostOps1 W (Proc.devRef .tc main_v12) : S12x64x768.Idx → EReal) (ix3 h d e)
      = (W (Proc.devRef .tc main_arg5) : S768x768.Idx → EReal) (ix2 (headCol h d) e) := by
  simp only [hostOps1]
  after_results_simp
  generalize (W (Proc.devRef .tc main_arg5) : S768x768.Idx → EReal) = x
  pointwise

/-- The key bias by head. -/
theorem v13 (h : Fin 12) (d : Fin 64) :
    (StableHlo.after hostOps1 W (Proc.devRef .tc main_v13) : S12x64x1.Idx → EReal) (ix3 h d 0)
      = (W (Proc.devRef .tc main_arg6) : S768.Idx → EReal) (ix1 (headCol h d)) := by
  simp only [hostOps1]
  after_results_simp
  generalize (W (Proc.devRef .tc main_arg6) : S768.Idx → EReal) = x
  pointwise

/-- The value weights by head. -/
theorem v15 (h : Fin 12) (d : Fin 64) (e : Fin 768) :
    (StableHlo.after hostOps2 W (Proc.devRef .tc main_v15) : S12x64x768.Idx → EReal) (ix3 h d e)
      = (W (Proc.devRef .tc main_arg7) : S768x768.Idx → EReal) (ix2 (headCol h d) e) := by
  simp only [hostOps2]
  after_results_simp
  generalize (W (Proc.devRef .tc main_arg7) : S768x768.Idx → EReal) = x
  pointwise

/-- The value bias by head. -/
theorem v16 (h : Fin 12) (d : Fin 64) :
    (StableHlo.after hostOps2 W (Proc.devRef .tc main_v16) : S12x1x64.Idx → EReal) (ix3 h 0 d)
      = (W (Proc.devRef .tc main_arg8) : S768.Idx → EReal) (ix1 (headCol h d)) := by
  simp only [hostOps2]
  after_results_simp
  generalize (W (Proc.devRef .tc main_arg8) : S768.Idx → EReal) = x
  pointwise

/-- The temperature. -/
theorem v19 :
    (StableHlo.after hostOps4 W (Proc.devRef .tc main_v19) : S1x1.Idx → EReal) (ix2 0 0)
      = (W (Proc.devRef .tc main_arg11) : S1.Idx → EReal) (ix1 0) := by
  simp only [hostOps4]
  after_results_simp
  generalize (W (Proc.devRef .tc main_arg11) : S1.Idx → EReal) = x
  pointwise

/-- The output weights by head; the change of format keeps every number. -/
theorem v23 (h : Fin 12) (o : Fin 768) (d : Fin 64) :
    (StableHlo.after hostOps5 W (Proc.devRef .tc main_v23) : S12x768x64.Idx → EReal) (ix3 h o d)
      = (W (Proc.devRef .tc main_arg9) : S768x768.Idx → EReal) (ix2 o (headCol h d)) := by
  simp only [hostOps5]
  after_results_simp
  generalize (W (Proc.devRef .tc main_arg9) : S768x768.Idx → EReal) = x
  pointwise

/-- The output bias. -/
theorem v24 (o : Fin 768) :
    (StableHlo.after hostOps5 W (Proc.devRef .tc main_v24) : S1x768.Idx → EReal) (ix2 0 o)
      = (W (Proc.devRef .tc main_arg10) : S768.Idx → EReal) (ix1 o) := by
  simp only [hostOps5]
  after_results_simp
  generalize (W (Proc.devRef .tc main_arg10) : S768.Idx → EReal) = x
  pointwise

/-- The result, a leading axis of one row put in front. -/
theorem v26 (s : Fin 2048) (o : Fin 768) :
    (StableHlo.after hostOps6 W (Proc.devRef .tc main_v26) : S1x2048x768.Idx → EReal) (ix3 0 s o)
      = (W (Proc.devRef .tc main_v25) : S2048x768.Idx → EReal) (ix2 s o) := by
  simp only [hostOps6]
  after_results_simp
  generalize (W (Proc.devRef .tc main_v25) : S2048x768.Idx → EReal) = x
  pointwise

end Cert.KernelIdeal.Host
-- ==== Proof.ProjQ.lean ====
/-
  The launch that projects the queries: its result array holds, transposed, the linear layer of every head.
-/
module

public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.ProjQ

open Cert.KernelIdeal Cert.KernelIdeal.Gen

variable (V : (c : Dev nD) → (b : Ref sig .tc) → Buf (Elt Ideal) ((c : Thread nD τ).loc b))

/-- What one grid step computes. -/
theorem pay_apply (W : Vec Ideal S1x64x768 .f32) (x : Vec Ideal S1024x768 .f32) (b : Vec Ideal S1x64x1 .f32)
    (z : Fin 1) (d : Fin 64) (s : Fin 1024) :
    k0_pay2 W x b (ix3 z d s) = (∑ e : Fin 768, W (ix3 0 d e) * x (ix2 s e)) + b (ix3 0 d 0) := by
  pointwise [k0_pay2, k0_pay1, dot_S64x768_S1024x768_S64x1024_1_1_0_0_n_n]

/-- What one grid step stores, read through the windows. -/
theorem out_apply (x : Vec Ideal S1024x768 .f32) (W : Vec Ideal S1x64x768 .f32) (b : Vec Ideal S1x64x1 .f32)
    (z : Fin 1) (d : Fin 64) (s : Fin 1024) :
    out0_3 x W b (ix3 z d s) = (∑ e : Fin 768, W (ix3 0 d e) * x (ix2 s e)) + b (ix3 0 d 0) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz3, View.ld_unit_zero hz3, View.ld_unit_zero hz2, View.ld_unit_zero hz3, pay_apply]

/-- The head point `t` works on. -/
abbrev head (t : Fin grid0.N) : Fin 12 := ⟨t.val % 12, Nat.mod_lt _ (by decide)⟩

/-- Row `s` of the block at point `t`. -/
abbrev row (t : Fin grid0.N) (s : Fin 1024) : Fin 2048 :=
  ⟨t.val / 12 * 1024 + s.val, by have := lt_of_lt_of_eq t.isLt N_0; omega⟩

/-- Which block of its array window 0 is at each grid point: 1024 rows of the activations. -/
theorem index0 : ∀ t : Fin grid0.N, win0_0.index t 0 = t.val / 12 ∧ win0_0.index t 1 = 0 := by decide +kernel

/-- Which block of its array window 1 is at each grid point: the head's weights. -/
theorem index1 : ∀ t : Fin grid0.N, win0_1.index t 0 = t.val % 12 ∧ win0_1.index t 1 = 0 ∧ win0_1.index t 2 = 0 := by
  decide +kernel

/-- Which block of its array window 2 is at each grid point: the head's bias. -/
theorem index2 : ∀ t : Fin grid0.N, win0_2.index t 0 = t.val % 12 ∧ win0_2.index t 1 = 0 ∧ win0_2.index t 2 = 0 := by
  decide +kernel

/-- Which block of its array window 3 is at each grid point: the head's result at those rows. -/
theorem index3 : ∀ t : Fin grid0.N, win0_3.index t 0 = t.val % 12 ∧ win0_3.index t 1 = 0 ∧ win0_3.index t 2 = t.val / 12 := by
  decide +kernel

/-- Point `t`'s block of the activations: 1024 rows, all columns. -/
theorem blk_x (c : Dev nD) (t : Fin cfg0.N) (s : Fin 1024) (e : Fin 768) :
    iblk0 V c 0 t (ix2 s e) = V c main_v8 (ix2 (row t s) e) := by
  refine congrArg (V c main_v8) (funext fun a => Fin.ext ((win0_0.rect_emb_val t (ix2 s e) a).trans ?_))
  have h := index0 t
  match a with
  | ⟨0, _⟩ => show win0_0.index t 0 * 1024 + s.val = t.val / 12 * 1024 + s.val; rw [h.1]
  | ⟨1, _⟩ => show win0_0.index t 1 * 768 + e.val = e.val; rw [h.2]; omega

/-- Its block of the weights: one head's. -/
theorem blk_W (c : Dev nD) (t : Fin cfg0.N) (z : Fin 1) (d : Fin 64) (e : Fin 768) :
    iblk0 V c 1 t (ix3 z d e) = V c main_v9 (ix3 (head t) d e) := by
  refine congrArg (V c main_v9) (funext fun a => Fin.ext ((win0_1.rect_emb_val t (ix3 z d e) a).trans ?_))
  have h := index1 t
  match a with
  | ⟨0, _⟩ => show win0_1.index t 0 * 1 + z.val = t.val % 12; rw [h.1]; omega
  | ⟨1, _⟩ => show win0_1.index t 1 * 64 + d.val = d.val; rw [h.2.1]; omega
  | ⟨2, _⟩ => show win0_1.index t 2 * 768 + e.val = e.val; rw [h.2.2]; omega

/-- Its block of the bias: one head's. -/
theorem blk_b (c : Dev nD) (t : Fin cfg0.N) (z : Fin 1) (d : Fin 64) (o : Fin 1) :
    iblk0 V c 2 t (ix3 z d o) = V c main_v10 (ix3 (head t) d o) := by
  refine congrArg (V c main_v10) (funext fun a => Fin.ext ((win0_2.rect_emb_val t (ix3 z d o) a).trans ?_))
  have h := index2 t
  match a with
  | ⟨0, _⟩ => show win0_2.index t 0 * 1 + z.val = t.val % 12; rw [h.1]; omega
  | ⟨1, _⟩ => show win0_2.index t 1 * 64 + d.val = d.val; rw [h.2.1]; omega
  | ⟨2, _⟩ => show win0_2.index t 2 * 1 + o.val = o.val; rw [h.2.2]; omega

/-- Where an element of the result's block at `t` lies in the array. -/
theorem emb_out (t : Fin cfg0.N) (z : Fin 1) (d : Fin 64) (s : Fin 1024) :
    ((win0_3.rect t).emb (ix3 z d s) : S12x64x2048.Idx) = ix3 (head t) d (row t s) := by
  refine funext fun a => Fin.ext ((win0_3.rect_emb_val t (ix3 z d s) a).trans ?_)
  have h := index3 t
  match a with
  | ⟨0, _⟩ => show win0_3.index t 0 * 1 + z.val = t.val % 12; rw [h.1]; omega
  | ⟨1, _⟩ => show win0_3.index t 1 * 64 + d.val = d.val; rw [h.2.1]; omega
  | ⟨2, _⟩ => show win0_3.index t 2 * 1024 + s.val = t.val / 12 * 1024 + s.val; rw [h.2.2]

/-- The transposed projection, whole. -/
def projT (x : S2048x768.Idx → EReal) (W : S12x64x768.Idx → EReal) (b : S12x64x1.Idx → EReal) : S12x64x2048.Idx → EReal :=
  fun i => (∑ e : Fin 768, W (ix3 (i 0) (i 1) e) * x (ix2 (i 2) e)) + b (ix3 (i 0) (i 1) 0)

/-- `projT` at its coordinates. -/
theorem projT_apply (x : S2048x768.Idx → EReal) (W : S12x64x768.Idx → EReal) (b : S12x64x1.Idx → EReal)
    (h : Fin 12) (d : Fin 64) (s : Fin 2048) :
    projT x W b (ix3 h d s) = (∑ e : Fin 768, W (ix3 h d e) * x (ix2 s e)) + b (ix3 h d 0) := rfl

/-- What point `t` writes back is its block of the projection. -/
theorem flushed_eq (c : Dev nD) (t : Fin cfg0.N) :
    (dat0 V c).flushed 3 t = (win0_3.blk t).view.read (Elt Ideal) (projT (V c main_v8) (V c main_v9) (V c main_v10)) := by
  show (cfg0.win 3).cut (grid0.coords t) ((dat0 V c).after 3 t) = _
  rw [after0_3]
  refine funext fun (y : S1x64x1024.Idx) => ?_
  show out0_3 (iblk0 V c 0 t) (iblk0 V c 1 t) (iblk0 V c 2 t) y = projT _ _ _ ((win0_3.rect t).emb y)
  obtain ⟨z, d, s, rfl⟩ : ∃ (z : Fin 1) (d : Fin 64) (s : Fin 1024), y = ix3 z d s := ⟨_, _, _, eq_ix3 y⟩
  rw [emb_out, out_apply, projT_apply, blk_b]
  simp_rw [blk_x, blk_W]

/-- The blocks tile the array. -/
theorem cover (i : S12x64x2048.Idx) : ∃ t : Fin cfg0.N, (cfg0.win 3).flush t = true ∧ i ∈ ((cfg0.win 3).blk t).view.set := by
  obtain ⟨h, d, s, rfl⟩ : ∃ (h : Fin 12) (d : Fin 64) (s : Fin 2048), i = ix3 h d s := ⟨_, _, _, eq_ix3 i⟩
  obtain ⟨t, ht⟩ : ∃ t : Fin cfg0.N, t.val = s.val / 1024 * 12 + h.val :=
    ⟨⟨s.val / 1024 * 12 + h.val, by rw [show cfg0.N = 24 from N_0]; omega⟩, rfl⟩
  refine ⟨t, flush0_3 _, ?_⟩
  rw [show ix3 h d s = ((win0_3.rect t).emb (ix3 0 d ⟨s.val % 1024, by omega⟩) : S12x64x2048.Idx) by
    rw [emb_out, ix3_inj]
    exact ⟨Fin.ext (by show h.val = t.val % 12; omega), rfl,
      Fin.ext (by show s.val = t.val / 12 * 1024 + s.val % 1024; omega)⟩]
  exact Finset.mem_map_of_mem _ (Finset.mem_univ _)

/-- So the result array ends holding the projection. -/
theorem value (c : Dev nD) :
    (dat0 V c).arrAt 3 cfg0.N = projT (V c main_v8) (V c main_v9) (V c main_v10) :=
  (dat0 V c).arrAt_eq_of_cover 3 _ (fun t _ => flushed_eq V c t) cover

end Cert.KernelIdeal.ProjQ
-- ==== Proof.ProjK.lean ====
/-
  The launch that projects the keys: both its result arrays hold, transposed, the linear layer of every head.
-/
module

public import proofs.«01_k».proof.Proof.ProjQ

@[expose] public section

noncomputable section

open Idealize.ShloMosaic Idealize.ShloMosaic.TcCoe Idealize.SL.Sem
open Idealize.ShloMosaic.Pipeline (Dat)

namespace Cert.KernelIdeal.ProjK

open Cert.KernelIdeal Cert.KernelIdeal.Gen
open Cert.KernelIdeal.ProjQ (projT projT_apply)

variable (V : (c : Dev nD) → (b : Ref sig .tc) → Buf (Elt Ideal) ((c : Thread nD τ).loc b))

/-- One grid step of this launch is a grid step of the query launch, on the blocks of the keys. -/
theorem out3_eq (x : Vec Ideal S1024x768 .f32) (W : Vec Ideal S1x64x768 .f32) (b : Vec Ideal S1x64x1 .f32) :
    out1_3 x W b = out0_3 x W b := rfl

/-- Its second result holds the same numbers: the rounding to a narrower format is the identity on exact values. -/
theorem out4_eq (x : Vec Ideal S1024x768 .f32) (W : Vec Ideal S1x64x768 .f32) (b : Vec Ideal S1x64x1 .f32) :
    out1_4 x W b = out0_3 x W b := by
  have hz : (![0, 0, 0] : Fin 3 → Nat) = fun _ => 0 := funext fun a => by fin_cases a <;> rfl
  unfold out1_4 out0_3
  rw [View.canon_unit_zero hz, View.canon_unit_zero hz]
  rfl

/-- The head point `t` works on. -/
abbrev head (t : Fin grid1.N) : Fin 12 := ⟨t.val % 12, Nat.mod_lt _ (by decide)⟩

/-- Row `s` of the block at point `t`. -/
abbrev row (t : Fin grid1.N) (s : Fin 1024) : Fin 2048 :=
  ⟨t.val / 12 * 1024 + s.val, by have := lt_of_lt_of_eq t.isLt N_1; omega⟩

/-- Which block of its array window 0 is at each grid point: 1024 rows of the activations. -/
theorem index0 : ∀ t : Fin grid1.N, win1_0.index t 0 = t.val / 12 ∧ win1_0.index t 1 = 0 := by decide +kernel

/-- Which block of its array window 1 is at each grid point: the head's weights. -/
theorem index1 : ∀ t : Fin grid1.N, win1_1.index t 0 = t.val % 12 ∧ win1_1.index t 1 = 0 ∧ win1_1.index t 2 = 0 := by
  decide +kernel

/-- Which block of its array window 2 is at each grid point: the head's bias. -/
theorem index2 : ∀ t : Fin grid1.N, win1_2.index t 0 = t.val % 12 ∧ win1_2.index t 1 = 0 ∧ win1_2.index t 2 = 0 := by
  decide +kernel

/-- Which block of its array window 3 is at each grid point: the head's result at those rows. -/
theorem index3 : ∀ t : Fin grid1.N, win1_3.index t 0 = t.val % 12 ∧ win1_3.index t 1 = 0 ∧ win1_3.index t 2 = t.val / 12 := by
  decide +kernel

/-- Point `t`'s block of the activations: 1024 rows, all columns. -/
theorem blk_x (c : Dev nD) (t : Fin cfg1.N) (s : Fin 1024) (e : Fin 768) :
    iblk1 V c 0 t (ix2 s e) = V c main_v3 (ix2 (row t s) e) := by
  refine congrArg (V c main_v3) (funext fun a => Fin.ext ((win1_0.rect_emb_val t (ix2 s e) a).trans ?_))
  have h := index0 t
  match a with
  | ⟨0, _⟩ => show win1_0.index t 0 * 1024 + s.val = t.val / 12 * 1024 + s.val; rw [h.1]
  | ⟨1, _⟩ => show win1_0.index t 1 * 768 + e.val = e.val; rw [h.2]; omega

/-- Its block of the weights: one head's. -/
theorem blk_W (c : Dev nD) (t : Fin cfg1.N) (z : Fin 1) (d : Fin 64) (e : Fin 768) :
    iblk1 V c 1 t (ix3 z d e) = V c main_v12 (ix3 (head t) d e) := by
  refine congrArg (V c main_v12) (funext fun a => Fin.ext ((win1_1.rect_emb_val t (ix3 z d e) a).trans ?_))
  have h := index1 t
  match a with
  | ⟨0, _⟩ => show win1_1.index t 0 * 1 + z.val = t.val % 12; rw [h.1]; omega
  | ⟨1, _⟩ => show win1_1.index t 1 * 64 + d.val = d.val; rw [h.2.1]; omega
  | ⟨2, _⟩ => show win1_1.index t 2 * 768 + e.val = e.val; rw [h.2.2]; omega

/-- Its block of the bias: one head's. -/
theorem blk_b (c : Dev nD) (t : Fin cfg1.N) (z : Fin 1) (d : Fin 64) (o : Fin 1) :
    iblk1 V c 2 t (ix3 z d o) = V c main_v13 (ix3 (head t) d o) := by
  refine congrArg (V c main_v13) (funext fun a => Fin.ext ((win1_2.rect_emb_val t (ix3 z d o) a).trans ?_))
  have h := index2 t
  match a with
  | ⟨0, _⟩ => show win1_2.index t 0 * 1 + z.val = t.val % 12; rw [h.1]; omega
  | ⟨1, _⟩ => show win1_2.index t 1 * 64 + d.val = d.val; rw [h.2.1]; omega
  | ⟨2, _⟩ => show win1_2.index t 2 * 1 + o.val = o.val; rw [h.2.2]; omega

/-- The second result is cut into blocks as the first is. -/
theorem index4 : ∀ t : Fin grid1.N, win1_4.index t 0 = t.val % 12 ∧ win1_4.index t 1 = 0 ∧ win1_4.index t 2 = t.val / 12 := by
  decide +kernel

/-- Where an element of the result's block at `t` lies in the array. -/
theorem emb_out (t : Fin cfg1.N) (z : Fin 1) (d : Fin 64) (s : Fin 1024) :
    ((win1_3.rect t).emb (ix3 z d s) : S12x64x2048.Idx) = ix3 (head t) d (row t s) := by
  refine funext fun a => Fin.ext ((win1_3.rect_emb_val t (ix3 z d s) a).trans ?_)
  have h := index3 t
  match a with
  | ⟨0, _⟩ => show win1_3.index t 0 * 1 + z.val = t.val % 12; rw [h.1]; omega
  | ⟨1, _⟩ => show win1_3.index t 1 * 64 + d.val = d.val; rw [h.2.1]; omega
  | ⟨2, _⟩ => show win1_3.index t 2 * 1024 + s.val = t.val / 12 * 1024 + s.val; rw [h.2.2]

/-- What point `t` writes back is its block of the projection. -/
theorem flushed_eq (c : Dev nD) (t : Fin cfg1.N) :
    (dat1 V c).flushed 3 t = (win1_3.blk t).view.read (Elt Ideal) (projT (V c main_v3) (V c main_v12) (V c main_v13)) := by
  show (cfg1.win 3).cut (grid1.coords t) ((dat1 V c).after 3 t) = _
  rw [after1_3]
  refine funext fun (y : S1x64x1024.Idx) => ?_
  show out1_3 (iblk1 V c 0 t) (iblk1 V c 1 t) (iblk1 V c 2 t) y = projT _ _ _ ((win1_3.rect t).emb y)
  obtain ⟨z, d, s, rfl⟩ : ∃ (z : Fin 1) (d : Fin 64) (s : Fin 1024), y = ix3 z d s := ⟨_, _, _, eq_ix3 y⟩
  rw [out3_eq, emb_out, ProjQ.out_apply, projT_apply, blk_b]
  simp_rw [blk_x, blk_W]

/-- The blocks tile the array. -/
theorem cover (i : S12x64x2048.Idx) : ∃ t : Fin cfg1.N, (cfg1.win 3).flush t = true ∧ i ∈ ((cfg1.win 3).blk t).view.set := by
  obtain ⟨h, d, s, rfl⟩ : ∃ (h : Fin 12) (d : Fin 64) (s : Fin 2048), i = ix3 h d s := ⟨_, _, _, eq_ix3 i⟩
  obtain ⟨t, ht⟩ : ∃ t : Fin cfg1.N, t.val = s.val / 1024 * 12 + h.val :=
    ⟨⟨s.val / 1024 * 12 + h.val, by rw [show cfg1.N = 24 from N_1]; omega⟩, rfl⟩
  refine ⟨t, flush1_3 _, ?_⟩
  rw [show ix3 h d s = ((win1_3.rect t).emb (ix3 0 d ⟨s.val % 1024, by omega⟩) : S12x64x2048.Idx) by
    rw [emb_out, ix3_inj]
    exact ⟨Fin.ext (by show h.val = t.val % 12; omega), rfl,
      Fin.ext (by show s.val = t.val / 12 * 1024 + s.val % 1024; omega)⟩]
  exact Finset.mem_map_of_mem _ (Finset.mem_univ _)

/-- So the result array ends holding the projection. -/
theorem value (c : Dev nD) :
    (dat1 V c).arrAt 3 cfg1.N = projT (V c main_v3) (V c main_v12) (V c main_v13) :=
  (dat1 V c).arrAt_eq_of_cover 3 _ (fun t _ => flushed_eq V c t) cover

/-- Where an element of the second result's block at `t` lies in the array. -/
theorem emb_out4 (t : Fin cfg1.N) (z : Fin 1) (d : Fin 64) (s : Fin 1024) :
    ((win1_4.rect t).emb (ix3 z d s) : S12x64x2048.Idx) = ix3 (head t) d (row t s) := by
  refine funext fun a => Fin.ext ((win1_4.rect_emb_val t (ix3 z d s) a).trans ?_)
  have h := index4 t
  match a with
  | ⟨0, _⟩ => show win1_4.index t 0 * 1 + z.val = t.val % 12; rw [h.1]; omega
  | ⟨1, _⟩ => show win1_4.index t 1 * 64 + d.val = d.val; rw [h.2.1]; omega
  | ⟨2, _⟩ => show win1_4.index t 2 * 1024 + s.val = t.val / 12 * 1024 + s.val; rw [h.2.2]

/-- What point `t` writes back to the second result is its block of the projection too. -/
theorem flushed_eq4 (c : Dev nD) (t : Fin cfg1.N) :
    (dat1 V c).flushed 4 t = (win1_4.blk t).view.read (Elt Ideal) (projT (V c main_v3) (V c main_v12) (V c main_v13)) := by
  show (cfg1.win 4).cut (grid1.coords t) ((dat1 V c).after 4 t) = _
  rw [after1_4]
  refine funext fun (y : S1x64x1024.Idx) => ?_
  show out1_4 (iblk1 V c 0 t) (iblk1 V c 1 t) (iblk1 V c 2 t) y = projT _ _ _ ((win1_4.rect t).emb y)
  obtain ⟨z, d, s, rfl⟩ : ∃ (z : Fin 1) (d : Fin 64) (s : Fin 1024), y = ix3 z d s := ⟨_, _, _, eq_ix3 y⟩
  rw [out4_eq, emb_out4, ProjQ.out_apply, projT_apply, blk_b]
  simp_rw [blk_x, blk_W]

/-- The second result's blocks tile its array. -/
theorem cover4 (i : S12x64x2048.Idx) : ∃ t : Fin cfg1.N, (cfg1.win 4).flush t = true ∧ i ∈ ((cfg1.win 4).blk t).view.set := by
  obtain ⟨h, d, s, rfl⟩ : ∃ (h : Fin 12) (d : Fin 64) (s : Fin 2048), i = ix3 h d s := ⟨_, _, _, eq_ix3 i⟩
  obtain ⟨t, ht⟩ : ∃ t : Fin cfg1.N, t.val = s.val / 1024 * 12 + h.val :=
    ⟨⟨s.val / 1024 * 12 + h.val, by rw [show cfg1.N = 24 from N_1]; omega⟩, rfl⟩
  refine ⟨t, flush1_4 _, ?_⟩
  rw [show ix3 h d s = ((win1_4.rect t).emb (ix3 0 d ⟨s.val % 1024, by omega⟩) : S12x64x2048.Idx) by
    rw [emb_out4, ix3_inj]
    exact ⟨Fin.ext (by show h.val = t.val % 12; omega), rfl,
      Fin.ext (by show s.val = t.val / 12 * 1024 + s.val % 1024; omega)⟩]
  exact Finset.mem_map_of_mem _ (Finset.mem_univ _)

/-- So the second result array ends holding the projection. -/
theorem value4 (c : Dev nD) :
    (dat1 V c).arrAt 4 cfg1.N = projT (V c main_v3) (V c main_v12) (V c main_v13) :=
  (dat1 V c).arrAt_eq_of_cover 4 _ (fun t _ => flushed_eq4 V c t) cover4

end Cert.KernelIdeal.ProjK
-- ==== Proof.ProjV.lean ====
/-
  The launch that projects the values: its result array holds the linear layer of every head.
-/
module

public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.ProjV

open Cert.KernelIdeal Cert.KernelIdeal.Gen

variable (V : (c : Dev nD) → (b : Ref sig .tc) → Buf (Elt Ideal) ((c : Thread nD τ).loc b))

/-- What one grid step computes. -/
theorem pay_apply (W : Vec Ideal S1x64x768 .f32) (x : Vec Ideal S1024x768 .f32) (b : Vec Ideal S1x1x64 .f32)
    (z : Fin 1) (s : Fin 1024) (d : Fin 64) :
    k2_pay1 x W b (ix3 z s d) = (∑ e : Fin 768, x (ix2 s e) * W (ix3 0 d e)) + b (ix3 0 0 d) := by
  pointwise [k2_pay1, dot_S1024x768_S64x768_S1024x64_1_1_0_0_n_n]

/-- What one grid step stores, read through the windows. -/
theorem out_apply (x : Vec Ideal S1024x768 .f32) (W : Vec Ideal S1x64x768 .f32) (b : Vec Ideal S1x1x64 .f32)
    (z : Fin 1) (s : Fin 1024) (d : Fin 64) :
    out2_3 x W b (ix3 z s d) = (∑ e : Fin 768, x (ix2 s e) * W (ix3 0 d e)) + b (ix3 0 0 d) := by
  have hz2 : (![0, 0] : Fin 2 → Nat) = fun _ => 0 := funext fun a => by fin_cases a <;> rfl
  have hz3 : (![0, 0, 0] : Fin 3 → Nat) = fun _ => 0 := funext fun a => by fin_cases a <;> rfl
  unfold out2_3
  rw [View.canon_unit_zero hz3, View.ld_unit_zero hz2, View.ld_unit_zero hz3, View.ld_unit_zero hz3, pay_apply]

/-- The head point `t` works on. -/
abbrev head (t : Fin grid2.N) : Fin 12 := ⟨t.val % 12, Nat.mod_lt _ (by decide)⟩

/-- Row `s` of the block at point `t`. -/
abbrev row (t : Fin grid2.N) (s : Fin 1024) : Fin 2048 :=
  ⟨t.val / 12 * 1024 + s.val, by have := lt_of_lt_of_eq t.isLt N_2; omega⟩

/-- Which block of its array window 0 is at each grid point: 1024 rows of the activations. -/
theorem index0 : ∀ t : Fin grid2.N, win2_0.index t 0 = t.val / 12 ∧ win2_0.index t 1 = 0 := by decide +kernel

/-- Which block of its array window 1 is at each grid point: the head's weights. -/
theorem index1 : ∀ t : Fin grid2.N, win2_1.index t 0 = t.val % 12 ∧ win2_1.index t 1 = 0 ∧ win2_1.index t 2 = 0 := by
  decide +kernel

/-- Which block of its array window 2 is at each grid point: the head's bias. -/
theorem index2 : ∀ t : Fin grid2.N, win2_2.index t 0 = t.val % 12 ∧ win2_2.index t 1 = 0 ∧ win2_2.index t 2 = 0 := by
  decide +kernel

/-- Which block of its array window 3 is at each grid point: the head's result at those rows. -/
theorem index3 : ∀ t : Fin grid2.N, win2_3.index t 0 = t.val % 12 ∧ win2_3.index t 1 = t.val / 12 ∧ win2_3.index t 2 = 0 := by
  decide +kernel

/-- Point `t`'s block of the activations: 1024 rows, all columns. -/
theorem blk_x (c : Dev nD) (t : Fin cfg2.N) (s : Fin 1024) (e : Fin 768) :
    iblk2 V c 0 t (ix2 s e) = V c main_v7 (ix2 (row t s) e) := by
  refine congrArg (V c main_v7) (funext fun a => Fin.ext ((win2_0.rect_emb_val t (ix2 s e) a).trans ?_))
  have h := index0 t
  match a with
  | ⟨0, _⟩ => show win2_0.index t 0 * 1024 + s.val = t.val / 12 * 1024 + s.val; rw [h.1]
  | ⟨1, _⟩ => show win2_0.index t 1 * 768 + e.val = e.val; rw [h.2]; omega

/-- Its block of the weights: one head's. -/
theorem blk_W (c : Dev nD) (t : Fin cfg2.N) (z : Fin 1) (d : Fin 64) (e : Fin 768) :
    iblk2 V c 1 t (ix3 z d e) = V c main_v15 (ix3 (head t) d e) := by
  refine congrArg (V c main_v15) (funext fun a => Fin.ext ((win2_1.rect_emb_val t (ix3 z d e) a).trans ?_))
  have h := index1 t
  match a with
  | ⟨0, _⟩ => show win2_1.index t 0 * 1 + z.val = t.val % 12; rw [h.1]; omega
  | ⟨1, _⟩ => show win2_1.index t 1 * 64 + d.val = d.val; rw [h.2.1]; omega
  | ⟨2, _⟩ => show win2_1.index t 2 * 768 + e.val = e.val; rw [h.2.2]; omega

/-- Its block of the bias: one head's. -/
theorem blk_b (c : Dev nD) (t : Fin cfg2.N) (z : Fin 1) (o : Fin 1) (d : Fin 64) :
    iblk2 V c 2 t (ix3 z o d) = V c main_v16 (ix3 (head t) o d) := by
  refine congrArg (V c main_v16) (funext fun a => Fin.ext ((win2_2.rect_emb_val t (ix3 z o d) a).trans ?_))
  have h := index2 t
  match a with
  | ⟨0, _⟩ => show win2_2.index t 0 * 1 + z.val = t.val % 12; rw [h.1]; omega
  | ⟨1, _⟩ => show win2_2.index t 1 * 1 + o.val = o.val; rw [h.2.1]; omega
  | ⟨2, _⟩ => show win2_2.index t 2 * 64 + d.val = d.val; rw [h.2.2]; omega

/-- Where an element of the result's block at `t` lies in the array. -/
theorem emb_out (t : Fin cfg2.N) (z : Fin 1) (s : Fin 1024) (d : Fin 64) :
    ((win2_3.rect t).emb (ix3 z s d) : S12x2048x64.Idx) = ix3 (head t) (row t s) d := by
  refine funext fun a => Fin.ext ((win2_3.rect_emb_val t (ix3 z s d) a).trans ?_)
  have h := index3 t
  match a with
  | ⟨0, _⟩ => show win2_3.index t 0 * 1 + z.val = t.val % 12; rw [h.1]; omega
  | ⟨1, _⟩ => show win2_3.index t 1 * 1024 + s.val = t.val / 12 * 1024 + s.val; rw [h.2.1]
  | ⟨2, _⟩ => show win2_3.index t 2 * 64 + d.val = d.val; rw [h.2.2]; omega

/-- The projection, whole. -/
def projR (x : S2048x768.Idx → EReal) (W : S12x64x768.Idx → EReal) (b : S12x1x64.Idx → EReal) : S12x2048x64.Idx → EReal :=
  fun i => (∑ e : Fin 768, x (ix2 (i 1) e) * W (ix3 (i 0) (i 2) e)) + b (ix3 (i 0) 0 (i 2))

/-- `projR` at its coordinates. -/
theorem projR_apply (x : S2048x768.Idx → EReal) (W : S12x64x768.Idx → EReal) (b : S12x1x64.Idx → EReal)
    (h : Fin 12) (s : Fin 2048) (d : Fin 64) :
    projR x W b (ix3 h s d) = (∑ e : Fin 768, x (ix2 s e) * W (ix3 h d e)) + b (ix3 h 0 d) := rfl

/-- What point `t` writes back is its block of the projection. -/
theorem flushed_eq (c : Dev nD) (t : Fin cfg2.N) :
    (dat2 V c).flushed 3 t = (win2_3.blk t).view.read (Elt Ideal) (projR (V c main_v7) (V c main_v15) (V c main_v16)) := by
  show (cfg2.win 3).cut (grid2.coords t) ((dat2 V c).after 3 t) = _
  rw [after2_3]
  refine funext fun (y : S1x1024x64.Idx) => ?_
  show out2_3 (iblk2 V c 0 t) (iblk2 V c 1 t) (iblk2 V c 2 t) y = projR _ _ _ ((win2_3.rect t).emb y)
  obtain ⟨z, s, d, rfl⟩ : ∃ (z : Fin 1) (s : Fin 1024) (d : Fin 64), y = ix3 z s d := ⟨_, _, _, eq_ix3 y⟩
  rw [emb_out, out_apply, projR_apply, blk_b]
  simp_rw [blk_x, blk_W]

/-- The blocks tile the array. -/
theorem cover (i : S12x2048x64.Idx) : ∃ t : Fin cfg2.N, (cfg2.win 3).flush t = true ∧ i ∈ ((cfg2.win 3).blk t).view.set := by
  obtain ⟨h, s, d, rfl⟩ : ∃ (h : Fin 12) (s : Fin 2048) (d : Fin 64), i = ix3 h s d := ⟨_, _, _, eq_ix3 i⟩
  obtain ⟨t, ht⟩ : ∃ t : Fin cfg2.N, t.val = s.val / 1024 * 12 + h.val :=
    ⟨⟨s.val / 1024 * 12 + h.val, by rw [show cfg2.N = 24 from N_2]; omega⟩, rfl⟩
  refine ⟨t, flush2_3 _, ?_⟩
  rw [show ix3 h s d = ((win2_3.rect t).emb (ix3 0 ⟨s.val % 1024, by omega⟩ d) : S12x2048x64.Idx) by
    rw [emb_out, ix3_inj]
    exact ⟨Fin.ext (by show h.val = t.val % 12; omega),
      Fin.ext (by show s.val = t.val / 12 * 1024 + s.val % 1024; omega), rfl⟩]
  exact Finset.mem_map_of_mem _ (Finset.mem_univ _)

/-- So the result array ends holding the projection. -/
theorem value (c : Dev nD) :
    (dat2 V c).arrAt 3 cfg2.N = projR (V c main_v7) (V c main_v15) (V c main_v16) :=
  (dat2 V c).arrAt_eq_of_cover 3 _ (fun t _ => flushed_eq V c t) cover

end Cert.KernelIdeal.ProjV
-- ==== Proof.Ens.lean ====
/-
  The launch that builds the windows' ensembles: its result array holds them for every head and window.
-/
module

public import proofs.«01_k».proof.Proof.Spec
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Ens

open Cert.KernelIdeal Cert.KernelIdeal.Gen Cert.Attn

variable (V : (c : Dev nD) → (b : Ref sig .tc) → Buf (Elt Ideal) ((c : Thread nD τ).loc b))

/-- The block's columns scaled to unit length. -/
theorem unit_apply (k : Vec Ideal S1x64x2048 .f32) (d : Fin 64) (s : Fin 2048) :
    k3_pay2 k (ix2 d s) = unit (fun e => k (ix3 0 e s)) d := by
  pointwise [k3_pay2]
  rfl

/-- A sum over sixteen indices, written out from the left. -/
theorem sum_sixteen (f : Fin 16 → EReal) :
    ∑ w, f w = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- What one grid step stores: for every pair of entries the mean, over the 16 rows of a window, of their product. -/
theorem pay_apply (k : Vec Ideal S1x64x2048 .f32) (z : Fin 1) (i j : Fin 64) (n : Fin 128) :
    out3_1 k (ix3 z (flat i j) n) = ens (fun w e => k (ix3 0 e (permRow w n))) i j := by
  have hz : (![0, 0, 0] : Fin 3 → Nat) = fun _ => 0 := funext fun a => by fin_cases a <;> rfl
  have hi : ∀ p, (⟨(i.val * 64 + j.val) / 64, p⟩ : Fin 64) = i := fun _ => Fin.ext (by show (i.val * 64 + j.val) / 64 = i.val; omega)
  have hj : ∀ p, (⟨(i.val * 64 + j.val) % 64, p⟩ : Fin 64) = j := fun _ => Fin.ext (by show (i.val * 64 + j.val) % 64 = j.val; omega)
  unfold ens
  simp_rw [← unit_apply]
  unfold out3_1 k3_pay13
  rw [View.canon_unit_zero hz, View.ld_unit_zero hz]
  pointwise [k3_pay1, k3_pay3, k3_pay4, k3_pay5, k3_pay6, k3_pay7, k3_pay8, k3_pay9, k3_pay10, k3_pay11, k3_pay12]
  simp only [hi, hj]
  generalize k3_pay2 k = u
  have h0 : ∀ p, (⟨n.val, p⟩ : Fin 2048) = permRow 0 n := fun _ => Fin.ext (by show n.val = 0 * 128 + n.val; omega)
  rw [sum_sixteen, h0]
  rfl

/-- Point `t` works on head `t`. -/
abbrev head (t : Fin grid3.N) : Fin 12 := ⟨t.val, lt_of_lt_of_eq t.isLt N_3⟩

/-- Which block of its array window 0 is at each grid point: the head's keys. -/
theorem index0 : ∀ t : Fin grid3.N, win3_0.index t 0 = t.val ∧ win3_0.index t 1 = 0 ∧ win3_0.index t 2 = 0 := by decide +kernel

/-- Which block of its array window 1 is at each grid point: the head's ensembles. -/
theorem index1 : ∀ t : Fin grid3.N, win3_1.index t 0 = t.val ∧ win3_1.index t 1 = 0 ∧ win3_1.index t 2 = 0 := by decide +kernel

/-- Point `t`'s block of the keys: one head's. -/
theorem blk_k (c : Dev nD) (t : Fin cfg3.N) (z : Fin 1) (d : Fin 64) (s : Fin 2048) :
    iblk3 V c 0 t (ix3 z d s) = V c main_v14_0 (ix3 (head t) d s) := by
  refine congrArg (V c main_v14_0) (funext fun a => Fin.ext ((win3_0.rect_emb_val t (ix3 z d s) a).trans ?_))
  have h := index0 t
  match a with
  | ⟨0, _⟩ => show win3_0.index t 0 * 1 + z.val = t.val; rw [h.1]; omega
  | ⟨1, _⟩ => show win3_0.index t 1 * 64 + d.val = d.val; rw [h.2.1]; omega
  | ⟨2, _⟩ => show win3_0.index t 2 * 2048 + s.val = s.val; rw [h.2.2]; omega

/-- Where an element of the result's block at `t` lies in the array. -/
theorem emb_out (t : Fin cfg3.N) (z : Fin 1) (r : Fin 4096) (n : Fin 128) :
    ((win3_1.rect t).emb (ix3 z r n) : S12x4096x128.Idx) = ix3 (head t) r n := by
  refine funext fun a => Fin.ext ((win3_1.rect_emb_val t (ix3 z r n) a).trans ?_)
  have h := index1 t
  match a with
  | ⟨0, _⟩ => show win3_1.index t 0 * 1 + z.val = t.val; rw [h.1]; omega
  | ⟨1, _⟩ => show win3_1.index t 1 * 4096 + r.val = r.val; rw [h.2.1]; omega
  | ⟨2, _⟩ => show win3_1.index t 2 * 128 + n.val = n.val; rw [h.2.2]; omega

/-- Every window's ensemble, of every head. -/
def ensAll (k : S12x64x2048.Idx → EReal) : S12x4096x128.Idx → EReal := fun y =>
  ens (fun w e => k (ix3 (y 0) e (permRow w (y 2)))) ⟨(y 1).val / 64, by have : (y 1).val < 4096 := (y 1).isLt; omega⟩
    ⟨(y 1).val % 64, Nat.mod_lt _ (by decide)⟩

/-- `ensAll` at a head, a pair of entries and a window. -/
theorem ensAll_apply (k : S12x64x2048.Idx → EReal) (h : Fin 12) (i j : Fin 64) (n : Fin 128) :
    ensAll k (ix3 h (flat i j) n) = ens (fun w e => k (ix3 h e (permRow w n))) i j := by
  have hi : ∀ p, (⟨(i.val * 64 + j.val) / 64, p⟩ : Fin 64) = i := fun _ => Fin.ext (by show (i.val * 64 + j.val) / 64 = i.val; omega)
  have hj : ∀ p, (⟨(i.val * 64 + j.val) % 64, p⟩ : Fin 64) = j := fun _ => Fin.ext (by show (i.val * 64 + j.val) % 64 = j.val; omega)
  exact congrArg₂ (ens fun w e => k (ix3 h e (permRow w n))) (hi _) (hj _)

/-- Every place of a flattened 64 by 64 matrix is that of a pair. -/
theorem exists_flat (r : Fin 4096) : ∃ i j : Fin 64, r = flat i j :=
  ⟨⟨r.val / 64, by omega⟩, ⟨r.val % 64, by omega⟩, Fin.ext (by show r.val = r.val / 64 * 64 + r.val % 64; omega)⟩

/-- What point `t` writes back is its block of the ensembles. -/
theorem flushed_eq (c : Dev nD) (t : Fin cfg3.N) :
    (dat3 V c).flushed 1 t = (win3_1.blk t).view.read (Elt Ideal) (ensAll (V c main_v14_0)) := by
  show (cfg3.win 1).cut (grid3.coords t) ((dat3 V c).after 1 t) = _
  rw [after3_1]
  refine funext fun (y : S1x4096x128.Idx) => ?_
  show out3_1 (iblk3 V c 0 t) y = ensAll _ ((win3_1.rect t).emb y)
  obtain ⟨z, r, n, rfl⟩ : ∃ (z : Fin 1) (r : Fin 4096) (n : Fin 128), y = ix3 z r n := ⟨_, _, _, eq_ix3 y⟩
  obtain ⟨i, j, rfl⟩ := exists_flat r
  rw [emb_out, pay_apply, ensAll_apply]
  simp_rw [blk_k]

/-- The blocks tile the array. -/
theorem cover (y : S12x4096x128.Idx) : ∃ t : Fin cfg3.N, (cfg3.win 1).flush t = true ∧ y ∈ ((cfg3.win 1).blk t).view.set := by
  obtain ⟨h, r, n, rfl⟩ : ∃ (h : Fin 12) (r : Fin 4096) (n : Fin 128), y = ix3 h r n := ⟨_, _, _, eq_ix3 y⟩
  obtain ⟨t, ht⟩ : ∃ t : Fin cfg3.N, t.val = h.val := ⟨⟨h.val, by rw [show cfg3.N = 12 from N_3]; omega⟩, rfl⟩
  refine ⟨t, flush3_1 _, ?_⟩
  rw [show ix3 h r n = ((win3_1.rect t).emb (ix3 0 r n) : S12x4096x128.Idx) by
    rw [emb_out, ix3_inj]; exact ⟨Fin.ext ht.symm, rfl, rfl⟩]
  exact Finset.mem_map_of_mem _ (Finset.mem_univ _)

/-- So the result array ends holding the ensembles. -/
theorem value (c : Dev nD) : (dat3 V c).arrAt 1 cfg3.N = ensAll (V c main_v14_0) :=
  (dat3 V c).arrAt_eq_of_cover 1 _ (fun t _ => flushed_eq V c t) cover

end Cert.KernelIdeal.Ens
-- ==== Proof.Attn.lean ====
/-
  One grid step of the attention launch: the scores, the four rounds, the softmaxes and the weighted sum of values.
-/
module

public import proofs.«01_k».proof.Proof.Rounds
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (V : (c : Dev nD) → (b : Ref sig .tc) → Buf (Elt Ideal) ((c : Thread nD τ).loc b))

/-- The scores of the windows for the query in column `q`. -/
abbrev scores (x0 : Vec Ideal S1x1 .f32) (x1 : Vec Ideal S1x64x1024 .f32) (x2 : Vec Ideal S1x4096x128 .bf16) (q : Fin 1024) (n : Fin 128) : EReal :=
  score (fun e => x1 (ix3 0 e q)) (fun i j => x2 (ix3 0 (flat i j) n)) (x0 (ix2 0 0))

/-- The kernel's scores: of every query of the block against every window. -/
theorem score_apply (x0 : Vec Ideal S1x1 .f32) (x1 : Vec Ideal S1x64x1024 .f32) (x2 : Vec Ideal S1x4096x128 .bf16) (q : Fin 1024) (n : Fin 128) :
    k4_pay5 x1 x2 x0 (ix2 q n) = scores x0 x1 x2 q n := by
  have hi : ∀ (i j : Fin 64) p, (⟨(i.val * 64 + j.val) / 64, p⟩ : Fin 64) = i := fun i j _ => Fin.ext (by show (i.val * 64 + j.val) / 64 = i.val; omega)
  have hj : ∀ (i j : Fin 64) p, (⟨(i.val * 64 + j.val) % 64, p⟩ : Fin 64) = j := fun i j _ => Fin.ext (by show (i.val * 64 + j.val) % 64 = j.val; omega)
  pointwise [k4_pay5, k4_pay2]
  rw [sum_flat 64 64 4096 rfl]
  simp only [hi, hj]
  rfl

section rounds

variable (v31 : FVec Ideal S1024x128 .f32) (v34 : FVec Ideal S1024x1 .f32) (v32 : IVec S1024x128 32) (v36 : IVec S1024x128 1) (v37 : IVec S1024x128 32)
variable (s : Fin 1024 → Fin 128 → EReal)
variable (h31 : ∀ q n, v31 (ix2 q n) = s q n) (h32 : ∀ q n, v32 (ix2 q n) = BitVec.ofNat 32 n.val)
variable (h34 : ∀ q, v34 (ix2 q 0) = top (s q))
variable (h36 : ∀ q n, v36 (ix2 q n) = BitVec.ofBool (decide (s q n = top (s q)))) (h37 : ∀ q n, v37 (ix2 q n) = 128#32)

include h32 h36 h37 in
/-- Round 0's mark: the first place of the largest score. -/
theorem hot0 (q : Fin 1024) (n : Fin 128) : k4_pay9 v32 v36 v37 (ix2 q n) = hot (s q) n := by
  have h : ∀ (p : Prop) [Decidable p] (x y : BitVec 32), Scalar.select (BitVec.ofBool (decide p)) x y = if p then x else y := fun p _ x y => by
    by_cases e : p <;> simp [Scalar.select, e]
  pointwise [k4_pay9]
  simp only [h32, h36, h37, h]
  rfl

include h31 h32 h36 h37

/-- The scores after round 0. -/
theorem rest1 (q : Fin 1024) (n : Fin 128) : k4_pay10 v31 v32 v36 v37 (ix2 q n) = after 1 (s q) n := by
  have h := hot0 v32 v36 v37 s h32 h36 h37
  pointwise [k4_pay10]
  simp only [h, h31]
  rfl

/-- Their largest. -/
theorem top1 (q : Fin 1024) : k4_pay11 v31 v32 v36 v37 (ix2 q 0) = top (after 1 (s q)) := by
  have h := rest1 v31 v32 v36 v37 s h31 h32 h36 h37
  pointwise [k4_pay11]
  simp only [h]
  rfl

/-- Round 1's mark. -/
theorem hot1 (q : Fin 1024) (n : Fin 128) : k4_pay12 v31 v32 v36 v37 (ix2 q n) = hot (after 1 (s q)) n := by
  have h := rest1 v31 v32 v36 v37 s h31 h32 h36 h37
  have h' := top1 v31 v32 v36 v37 s h31 h32 h36 h37
  pointwise [k4_pay12]
  simp only [h, h', h32]
  rfl

/-- The scores after round 1. -/
theorem rest2 (q : Fin 1024) (n : Fin 128) : k4_pay13 v31 v32 v36 v37 (ix2 q n) = after 2 (s q) n := by
  have h := rest1 v31 v32 v36 v37 s h31 h32 h36 h37
  have h' := hot1 v31 v32 v36 v37 s h31 h32 h36 h37
  pointwise [k4_pay13]
  simp only [h, h']
  rfl

/-- Their largest. -/
theorem top2 (q : Fin 1024) : k4_pay14 v31 v32 v36 v37 (ix2 q 0) = top (after 2 (s q)) := by
  have h := rest2 v31 v32 v36 v37 s h31 h32 h36 h37
  pointwise [k4_pay14]
  simp only [h]
  rfl

/-- Round 2's mark. -/
theorem hot2 (q : Fin 1024) (n : Fin 128) : k4_pay15 v31 v32 v36 v37 (ix2 q n) = hot (after 2 (s q)) n := by
  have h := rest2 v31 v32 v36 v37 s h31 h32 h36 h37
  have h' := top2 v31 v32 v36 v37 s h31 h32 h36 h37
  pointwise [k4_pay15]
  simp only [h, h', h32]
  rfl

/-- The scores after round 2. -/
theorem rest3 (q : Fin 1024) (n : Fin 128) : k4_pay16 v31 v32 v36 v37 (ix2 q n) = after 3 (s q) n := by
  have h := rest2 v31 v32 v36 v37 s h31 h32 h36 h37
  have h' := hot2 v31 v32 v36 v37 s h31 h32 h36 h37
  pointwise [k4_pay16]
  simp only [h, h']
  rfl

/-- Their largest. -/
theorem top3 (q : Fin 1024) : k4_pay17 v31 v32 v36 v37 (ix2 q 0) = top (after 3 (s q)) := by
  have h := rest3 v31 v32 v36 v37 s h31 h32 h36 h37
  pointwise [k4_pay17]
  simp only [h]
  rfl

/-- Round 3's mark. -/
theorem hot3 (q : Fin 1024) (n : Fin 128) : k4_pay18 v31 v32 v36 v37 (ix2 q n) = hot (after 3 (s q)) n := by
  have h := rest3 v31 v32 v36 v37 s h31 h32 h36 h37
  have h' := top3 v31 v32 v36 v37 s h31 h32 h36 h37
  pointwise [k4_pay18]
  simp only [h, h', h32]
  rfl

omit h31 h32 h36 h37 in
include h34 in
/-- Round 0's weight before scaling. -/
theorem lift0 (q : Fin 1024) : k4_pay19 v34 (ix2 q 0) = lift (s q) 0 := by
  pointwise [k4_pay19]
  simp only [h34]
  rfl

include h34

/-- Round 1's weight before scaling. -/
theorem lift1 (q : Fin 1024) : k4_pay20 v31 v32 v34 v36 v37 (ix2 q 0) = lift (s q) 1 := by
  have h := top1 v31 v32 v36 v37 s h31 h32 h36 h37
  pointwise [k4_pay20]
  simp only [h, h34]
  rfl

/-- Round 2's weight before scaling. -/
theorem lift2 (q : Fin 1024) : k4_pay21 v31 v32 v34 v36 v37 (ix2 q 0) = lift (s q) 2 := by
  have h := top2 v31 v32 v36 v37 s h31 h32 h36 h37
  pointwise [k4_pay21]
  simp only [h, h34]
  rfl

end rounds

/-- What one grid step stores, at query `q` and column `d`: over the windows and their rows, the row's share in the
    window times the window's weight times the row's value. -/
theorem pay_apply (x0 : Vec Ideal S1x1 .f32) (x1 : Vec Ideal S1x64x1024 .f32) (x2 : Vec Ideal S1x4096x128 .bf16)
    (x3 : Vec Ideal S1x64x2048 .bf16) (x4 : Vec Ideal S1x2048x64 .bf16) (z : Fin 1) (q : Fin 1024) (d : Fin 64) :
    out4_5 x0 x1 x2 x3 x4 (ix3 z q d) = ∑ w, ∑ n,
      soft (near (fun e => x1 (ix3 0 e q)) fun w e => x3 (ix3 0 e (permRow w n))) w
        * weigh (scores x0 x1 x2 q) n * x4 (ix3 0 (permRow w n) d) := by
  have hz : (![0, 0, 0] : Fin 3 → Nat) = fun _ => 0 := funext fun a => by fin_cases a <;> rfl
  have hw : (![0, 0] : Fin 2 → Nat) = fun _ => 0 := funext fun a => by fin_cases a <;> rfl
  have hi : ∀ (w : Fin 16) (n : Fin 128) p, (⟨(w.val * 128 + n.val) / 128, p⟩ : Fin 16) = w := fun i j _ => Fin.ext (by show (i.val * 128 + j.val) / 128 = i.val; omega)
  have hj : ∀ (w : Fin 16) (n : Fin 128) p, (⟨(w.val * 128 + n.val) % 128, p⟩ : Fin 128) = n := fun i j _ => Fin.ext (by show (i.val * 128 + j.val) % 128 = j.val; omega)
  have hk : ∀ (w : Fin 16) (n : Fin 128), (w.val * 128 + n.val) % 128 = n.val := fun i j => by omega
  have h31 : ∀ q n, k4_pay24 x0 x1 x2 x3 x4 (ix2 q n) = scores x0 x1 x2 q n := fun q n => by
    unfold k4_pay24
    rw [View.ld_unit_zero hz, View.ld_unit_zero hz, View.ld_unit_zero hw]
    exact score_apply x0 x1 x2 q n
  have h34 : ∀ q, k4_pay25 x0 x1 x2 x3 x4 (ix2 q 0) = top (scores x0 x1 x2 q) := fun q => by
    unfold k4_pay25
    rw [View.ld_unit_zero hz, View.ld_unit_zero hz, View.ld_unit_zero hw]
    pointwise [k4_pay6]
    simp only [score_apply]
    rfl
  have h32 : ∀ q n, k4_pay23 x0 x1 x2 x3 x4 (ix2 q n) = BitVec.ofNat 32 n.val := fun q n => by
    pointwise [k4_pay23]
  have h37 : ∀ q n, k4_pay27 x0 x1 x2 x3 x4 (ix2 q n) = 128#32 := fun q n => by
    pointwise [k4_pay27, k4_pay8]
  have h36 : ∀ q n, k4_pay26 x0 x1 x2 x3 x4 (ix2 q n) = BitVec.ofBool (decide (scores x0 x1 x2 q n = top (scores x0 x1 x2 q))) := fun q n => by
    rw [← h34, ← h31]
    unfold k4_pay26 k4_pay25 k4_pay24
    pointwise [k4_pay7]
  have e0 := hot0 _ _ _ _ h32 h36 h37
  have e1 := hot1 _ _ _ _ _ h31 h32 h36 h37
  have e2 := hot2 _ _ _ _ _ h31 h32 h36 h37
  have e3 := hot3 _ _ _ _ _ h31 h32 h36 h37
  have e4 := top3 _ _ _ _ _ h31 h32 h36 h37
  have e5 := lift0 _ _ h34
  have e6 := lift1 _ _ _ _ _ _ h31 h32 h34 h36 h37
  have e7 := lift2 _ _ _ _ _ _ h31 h32 h34 h36 h37
  unfold out4_5
  rw [View.canon_unit_zero hz, View.ld_unit_zero hz, View.ld_unit_zero hz, View.ld_unit_zero hz]
  generalize k4_pay9 _ _ _ = u0 at *
  generalize k4_pay12 (F := Ideal) _ _ _ _ = u1 at *
  generalize k4_pay15 (F := Ideal) _ _ _ _ = u2 at *
  generalize k4_pay18 (F := Ideal) _ _ _ _ = u3 at *
  generalize k4_pay17 (F := Ideal) _ _ _ _ = u4 at *
  generalize k4_pay19 (F := Ideal) _ = u5 at *
  generalize k4_pay20 (F := Ideal) _ _ _ _ _ = u6 at *
  generalize k4_pay21 (F := Ideal) _ _ _ _ _ = u7 at *
  generalize k4_pay25 (F := Ideal) _ _ _ _ _ = u8 at *
  pointwise [k4_pay1, k4_pay22, k4_pay2, k4_pay3, k4_pay4]
  rw [sum_flat 16 128 2048 rfl]
  simp only [hk, e0, e1, e2, e3, e4, e5, e6, e7, h34]
  rfl

end Cert.KernelIdeal.Attn
-- ==== Proof.AttnArray.lean ====
/-
  The attention launch: its result array holds every head's results.
-/
module

public import proofs.«01_k».proof.Proof.Attn
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (V : (c : Dev nD) → (b : Ref sig .tc) → Buf (Elt Ideal) ((c : Thread nD τ).loc b))

/-- The head point `t` works on. -/
abbrev head (t : Fin grid4.N) : Fin 12 := ⟨t.val / 2, by have := lt_of_lt_of_eq t.isLt N_4; omega⟩

/-- Query `s` of the block at point `t`. -/
abbrev row (t : Fin grid4.N) (s : Fin 1024) : Fin 2048 := ⟨t.val % 2 * 1024 + s.val, by omega⟩

/-- Which block of its array window 0 is at each grid point: the temperature, always the same. -/
theorem index0 : ∀ t : Fin grid4.N, win4_0.index t 0 = 0 ∧ win4_0.index t 1 = 0 := by decide +kernel

/-- Which block of its array window 1 is at each grid point: the point's head and half of the queries. -/
theorem index1 : ∀ t : Fin grid4.N, win4_1.index t 0 = t.val / 2 ∧ win4_1.index t 1 = 0 ∧ win4_1.index t 2 = t.val % 2 := by decide +kernel

/-- Which block of its array window 2 is at each grid point: the head's ensembles. -/
theorem index2 : ∀ t : Fin grid4.N, win4_2.index t 0 = t.val / 2 ∧ win4_2.index t 1 = 0 ∧ win4_2.index t 2 = 0 := by decide +kernel

/-- Which block of its array window 3 is at each grid point: the head's keys. -/
theorem index3 : ∀ t : Fin grid4.N, win4_3.index t 0 = t.val / 2 ∧ win4_3.index t 1 = 0 ∧ win4_3.index t 2 = 0 := by decide +kernel

/-- Which block of its array window 4 is at each grid point: the head's values. -/
theorem index4 : ∀ t : Fin grid4.N, win4_4.index t 0 = t.val / 2 ∧ win4_4.index t 1 = 0 ∧ win4_4.index t 2 = 0 := by decide +kernel

/-- Which block of its array window 5 is at each grid point: the head's results at that half of the queries. -/
theorem index5 : ∀ t : Fin grid4.N, win4_5.index t 0 = t.val / 2 ∧ win4_5.index t 1 = t.val % 2 ∧ win4_5.index t 2 = 0 := by decide +kernel

/-- Point `t`'s block of the temperature: the one number. -/
theorem blk_t (c : Dev nD) (t : Fin cfg4.N) (z y : Fin 1) : iblk4 V c 0 t (ix2 z y) = V c main_v19 (ix2 z y) := by
  refine congrArg (V c main_v19) (funext fun a => Fin.ext ((win4_0.rect_emb_val t (ix2 z y) a).trans ?_))
  have e := index0 t
  match a with
  | ⟨0, _⟩ => show win4_0.index t 0 * 1 + z.val = z.val; rw [e.1]; omega
  | ⟨1, _⟩ => show win4_0.index t 1 * 1 + y.val = y.val; rw [e.2]; omega

/-- Its block of the queries: 1024 of one head. -/
theorem blk_q (c : Dev nD) (t : Fin cfg4.N) (z : Fin 1) (d : Fin 64) (s : Fin 1024) :
    iblk4 V c 1 t (ix3 z d s) = V c main_v11_0 (ix3 (head t) d (row t s)) := by
  refine congrArg (V c main_v11_0) (funext fun a => Fin.ext ((win4_1.rect_emb_val t (ix3 z d s) a).trans ?_))
  have e := index1 t
  match a with
  | ⟨0, _⟩ => show win4_1.index t 0 * 1 + z.val = t.val / 2; rw [e.1]; omega
  | ⟨1, _⟩ => show win4_1.index t 1 * 64 + d.val = d.val; rw [e.2.1]; omega
  | ⟨2, _⟩ => show win4_1.index t 2 * 1024 + s.val = t.val % 2 * 1024 + s.val; rw [e.2.2]

/-- Its block of the ensembles: one head's. -/
theorem blk_E (c : Dev nD) (t : Fin cfg4.N) (z : Fin 1) (r : Fin 4096) (n : Fin 128) :
    iblk4 V c 2 t (ix3 z r n) = V c main_v18 (ix3 (head t) r n) := by
  refine congrArg (V c main_v18) (funext fun a => Fin.ext ((win4_2.rect_emb_val t (ix3 z r n) a).trans ?_))
  have e := index2 t
  match a with
  | ⟨0, _⟩ => show win4_2.index t 0 * 1 + z.val = t.val / 2; rw [e.1]; omega
  | ⟨1, _⟩ => show win4_2.index t 1 * 4096 + r.val = r.val; rw [e.2.1]; omega
  | ⟨2, _⟩ => show win4_2.index t 2 * 128 + n.val = n.val; rw [e.2.2]; omega

/-- Its block of the keys: one head's. -/
theorem blk_k (c : Dev nD) (t : Fin cfg4.N) (z : Fin 1) (d : Fin 64) (s : Fin 2048) :
    iblk4 V c 3 t (ix3 z d s) = V c main_v14_1 (ix3 (head t) d s) := by
  refine congrArg (V c main_v14_1) (funext fun a => Fin.ext ((win4_3.rect_emb_val t (ix3 z d s) a).trans ?_))
  have e := index3 t
  match a with
  | ⟨0, _⟩ => show win4_3.index t 0 * 1 + z.val = t.val / 2; rw [e.1]; omega
  | ⟨1, _⟩ => show win4_3.index t 1 * 64 + d.val = d.val; rw [e.2.1]; omega
  | ⟨2, _⟩ => show win4_3.index t 2 * 2048 + s.val = s.val; rw [e.2.2]; omega

/-- Its block of the values: one head's. -/
theorem blk_v (c : Dev nD) (t : Fin cfg4.N) (z : Fin 1) (s : Fin 2048) (d : Fin 64) :
    iblk4 V c 4 t (ix3 z s d) = V c main_v17 (ix3 (head t) s d) := by
  refine congrArg (V c main_v17) (funext fun a => Fin.ext ((win4_4.rect_emb_val t (ix3 z s d) a).trans ?_))
  have e := index4 t
  match a with
  | ⟨0, _⟩ => show win4_4.index t 0 * 1 + z.val = t.val / 2; rw [e.1]; omega
  | ⟨1, _⟩ => show win4_4.index t 1 * 2048 + s.val = s.val; rw [e.2.1]; omega
  | ⟨2, _⟩ => show win4_4.index t 2 * 64 + d.val = d.val; rw [e.2.2]; omega

/-- Where an element of the result's block at `t` lies in the array. -/
theorem emb_out (t : Fin cfg4.N) (z : Fin 1) (s : Fin 1024) (d : Fin 64) :
    ((win4_5.rect t).emb (ix3 z s d) : S12x2048x64.Idx) = ix3 (head t) (row t s) d := by
  refine funext fun a => Fin.ext ((win4_5.rect_emb_val t (ix3 z s d) a).trans ?_)
  have e := index5 t
  match a with
  | ⟨0, _⟩ => show win4_5.index t 0 * 1 + z.val = t.val / 2; rw [e.1]; omega
  | ⟨1, _⟩ => show win4_5.index t 1 * 1024 + s.val = t.val % 2 * 1024 + s.val; rw [e.2.1]
  | ⟨2, _⟩ => show win4_5.index t 2 * 64 + d.val = d.val; rw [e.2.2]; omega

/-- One query's result at one column as the kernel adds it up: over the windows' rows, the row's share in its window
    times the window's weight times the row's value. -/
def attnK (t : EReal) (q : Fin 64 → EReal) (E : Fin 128 → Fin 64 → Fin 64 → EReal)
    (k : Fin 128 → Fin 16 → Fin 64 → EReal) (v : Fin 128 → Fin 16 → EReal) : EReal :=
  ∑ w, ∑ n, soft (near q (k n)) w * weigh (fun n => score q (E n) t) n * v n w

/-- The heads' results, whole. -/
def attnAll (t : S1x1.Idx → EReal) (q : S12x64x2048.Idx → EReal) (E : S12x4096x128.Idx → EReal)
    (k : S12x64x2048.Idx → EReal) (v : S12x2048x64.Idx → EReal) : S12x2048x64.Idx → EReal := fun y =>
  attnK (t (ix2 0 0)) (fun e => q (ix3 (y 0) e (y 1))) (fun n i j => E (ix3 (y 0) (flat i j) n))
    (fun n w e => k (ix3 (y 0) e (permRow w n))) (fun n w => v (ix3 (y 0) (permRow w n) (y 2)))

/-- `attnAll` at a head, a query and a column. -/
theorem attnAll_apply (t : S1x1.Idx → EReal) (q : S12x64x2048.Idx → EReal) (E : S12x4096x128.Idx → EReal)
    (k : S12x64x2048.Idx → EReal) (v : S12x2048x64.Idx → EReal) (h : Fin 12) (s : Fin 2048) (d : Fin 64) :
    attnAll t q E k v (ix3 h s d) = attnK (t (ix2 0 0)) (fun e => q (ix3 h e s)) (fun n i j => E (ix3 h (flat i j) n))
      (fun n w e => k (ix3 h e (permRow w n))) (fun n w => v (ix3 h (permRow w n) d)) := rfl

/-- What point `t` writes back is its block of the heads' results. -/
theorem flushed_eq (c : Dev nD) (t : Fin cfg4.N) :
    (dat4 V c).flushed 5 t = (win4_5.blk t).view.read (Elt Ideal)
      (attnAll (V c main_v19) (V c main_v11_0) (V c main_v18) (V c main_v14_1) (V c main_v17)) := by
  show (cfg4.win 5).cut (grid4.coords t) ((dat4 V c).after 5 t) = _
  rw [after4_5]
  refine funext fun (y : S1x1024x64.Idx) => ?_
  show out4_5 (iblk4 V c 0 t) (iblk4 V c 1 t) (iblk4 V c 2 t) (iblk4 V c 3 t) (iblk4 V c 4 t) y = attnAll _ _ _ _ _ ((win4_5.rect t).emb y)
  obtain ⟨z, s, d, rfl⟩ : ∃ (z : Fin 1) (s : Fin 1024) (d : Fin 64), y = ix3 z s d := ⟨_, _, _, eq_ix3 y⟩
  rw [emb_out, pay_apply, attnAll_apply]
  unfold attnK scores
  simp_rw [blk_t, blk_q, blk_E, blk_k, blk_v]

/-- The blocks tile the array. -/
theorem cover (y : S12x2048x64.Idx) : ∃ t : Fin cfg4.N, (cfg4.win 5).flush t = true ∧ y ∈ ((cfg4.win 5).blk t).view.set := by
  obtain ⟨h, s, d, rfl⟩ : ∃ (h : Fin 12) (s : Fin 2048) (d : Fin 64), y = ix3 h s d := ⟨_, _, _, eq_ix3 y⟩
  obtain ⟨t, ht⟩ : ∃ t : Fin cfg4.N, t.val = h.val * 2 + s.val / 1024 :=
    ⟨⟨h.val * 2 + s.val / 1024, by rw [show cfg4.N = 24 from N_4]; omega⟩, rfl⟩
  refine ⟨t, flush4_5 _, ?_⟩
  rw [show ix3 h s d = ((win4_5.rect t).emb (ix3 0 ⟨s.val % 1024, by omega⟩ d) : S12x2048x64.Idx) by
    rw [emb_out, ix3_inj]
    exact ⟨Fin.ext (by show h.val = t.val / 2; omega), Fin.ext (by show s.val = t.val % 2 * 1024 + s.val % 1024; omega), rfl⟩]
  exact Finset.mem_map_of_mem _ (Finset.mem_univ _)

/-- So the result array ends holding the heads' results. -/
theorem value (c : Dev nD) : (dat4 V c).arrAt 5 cfg4.N =
    attnAll (V c main_v19) (V c main_v11_0) (V c main_v18) (V c main_v14_1) (V c main_v17) :=
  (dat4 V c).arrAt_eq_of_cover 5 _ (fun t _ => flushed_eq V c t) cover

end Cert.KernelIdeal.Attn
-- ==== Proof.Out.lean ====
/-
  The launch of the output layer: its result array holds the bias and every head's share.
-/
module

public import proofs.«01_k».proof.Proof.Spec
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.Attn

variable (V : (c : Dev nD) → (b : Ref sig .tc) → Buf (Elt Ideal) ((c : Thread nD τ).loc b))

/-- A sum over twelve indices, written out from the left behind a first term. -/
theorem sum_twelve (b : EReal) (f : Fin 12 → EReal) :
    b + ∑ h, f h = b + f 0 + f 1 + f 2 + f 3 + f 4 + f 5 + f 6 + f 7 + f 8 + f 9 + f 10 + f 11 := by
  simp only [Fin.sum_univ_castSucc, Finset.univ_eq_empty, Finset.sum_empty, zero_add, ← add_assoc]
  rfl

/-- What one grid step stores: the bias and, head after head, the product of the head's rows with its weights. -/
theorem pay_apply (x : Vec Ideal S12x1024x64 .f32) (W : Vec Ideal S12x768x64 .bf16) (b : Vec Ideal S1x768 .f32)
    (s : Fin 1024) (e : Fin 768) :
    out5_3 x W b (ix2 s e) = b (ix2 0 e) + ∑ h : Fin 12, ∑ d : Fin 64, x (ix3 h s d) * W (ix3 h e d) := by
  have hz : (![0, 0] : Fin 2 → Nat) = fun _ => 0 := funext fun a => by fin_cases a <;> rfl
  rw [sum_twelve]
  unfold out5_3
  rw [View.canon_unit_zero hz]
  pointwise [k5_pay1, k5_pay2, k5_pay3, k5_pay4, k5_pay5, dot_S1024x64_S768x64_S1024x768_1_1_0_0_n_n]

/-- Row `s` of the block at point `t`. -/
abbrev row (t : Fin grid5.N) (s : Fin 1024) : Fin 2048 :=
  ⟨t.val * 1024 + s.val, by have := lt_of_lt_of_eq t.isLt N_5; omega⟩

/-- Which block of its array window 0 is at each grid point: the point's rows of every head's results. -/
theorem index0 : ∀ t : Fin grid5.N, win5_0.index t 0 = 0 ∧ win5_0.index t 1 = t.val ∧ win5_0.index t 2 = 0 := by decide +kernel

/-- Which block of its array window 1 is at each grid point: all the weights. -/
theorem index1 : ∀ t : Fin grid5.N, win5_1.index t 0 = 0 ∧ win5_1.index t 1 = 0 ∧ win5_1.index t 2 = 0 := by decide +kernel

/-- Which block of its array window 2 is at each grid point: all of the bias. -/
theorem index2 : ∀ t : Fin grid5.N, win5_2.index t 0 = 0 ∧ win5_2.index t 1 = 0 := by decide +kernel

/-- Which block of its array window 3 is at each grid point: the point's rows of the result. -/
theorem index3 : ∀ t : Fin grid5.N, win5_3.index t 0 = t.val ∧ win5_3.index t 1 = 0 := by decide +kernel

/-- Point `t`'s block of the heads' results: 1024 rows of every head. -/
theorem blk_x (c : Dev nD) (t : Fin cfg5.N) (h : Fin 12) (s : Fin 1024) (d : Fin 64) :
    iblk5 V c 0 t (ix3 h s d) = V c main_v20 (ix3 h (row t s) d) := by
  refine congrArg (V c main_v20) (funext fun a => Fin.ext ((win5_0.rect_emb_val t (ix3 h s d) a).trans ?_))
  have e := index0 t
  match a with
  | ⟨0, _⟩ => show win5_0.index t 0 * 12 + h.val = h.val; rw [e.1]; omega
  | ⟨1, _⟩ => show win5_0.index t 1 * 1024 + s.val = t.val * 1024 + s.val; rw [e.2.1]
  | ⟨2, _⟩ => show win5_0.index t 2 * 64 + d.val = d.val; rw [e.2.2]; omega

/-- Its block of the weights: all of them. -/
theorem blk_W (c : Dev nD) (t : Fin cfg5.N) (h : Fin 12) (o : Fin 768) (d : Fin 64) :
    iblk5 V c 1 t (ix3 h o d) = V c main_v23 (ix3 h o d) := by
  refine congrArg (V c main_v23) (funext fun a => Fin.ext ((win5_1.rect_emb_val t (ix3 h o d) a).trans ?_))
  have e := index1 t
  match a with
  | ⟨0, _⟩ => show win5_1.index t 0 * 12 + h.val = h.val; rw [e.1]; omega
  | ⟨1, _⟩ => show win5_1.index t 1 * 768 + o.val = o.val; rw [e.2.1]; omega
  | ⟨2, _⟩ => show win5_1.index t 2 * 64 + d.val = d.val; rw [e.2.2]; omega

/-- Its block of the bias: all of it. -/
theorem blk_b (c : Dev nD) (t : Fin cfg5.N) (z : Fin 1) (o : Fin 768) :
    iblk5 V c 2 t (ix2 z o) = V c main_v24 (ix2 z o) := by
  refine congrArg (V c main_v24) (funext fun a => Fin.ext ((win5_2.rect_emb_val t (ix2 z o) a).trans ?_))
  have e := index2 t
  match a with
  | ⟨0, _⟩ => show win5_2.index t 0 * 1 + z.val = z.val; rw [e.1]; omega
  | ⟨1, _⟩ => show win5_2.index t 1 * 768 + o.val = o.val; rw [e.2]; omega

/-- Where an element of the result's block at `t` lies in the array. -/
theorem emb_out (t : Fin cfg5.N) (s : Fin 1024) (o : Fin 768) :
    ((win5_3.rect t).emb (ix2 s o) : S2048x768.Idx) = ix2 (row t s) o := by
  refine funext fun a => Fin.ext ((win5_3.rect_emb_val t (ix2 s o) a).trans ?_)
  have e := index3 t
  match a with
  | ⟨0, _⟩ => show win5_3.index t 0 * 1024 + s.val = t.val * 1024 + s.val; rw [e.1]
  | ⟨1, _⟩ => show win5_3.index t 1 * 768 + o.val = o.val; rw [e.2]; omega

/-- The output projection, whole: the bias and every head's share. -/
def outAll (x : S12x2048x64.Idx → EReal) (W : S12x768x64.Idx → EReal) (b : S1x768.Idx → EReal) : S2048x768.Idx → EReal := fun y =>
  b (ix2 0 (y 1)) + ∑ h : Fin 12, ∑ d : Fin 64, x (ix3 h (y 0) d) * W (ix3 h (y 1) d)

/-- `outAll` at a row and a column. -/
theorem outAll_apply (x : S12x2048x64.Idx → EReal) (W : S12x768x64.Idx → EReal) (b : S1x768.Idx → EReal) (s : Fin 2048) (o : Fin 768) :
    outAll x W b (ix2 s o) = b (ix2 0 o) + ∑ h : Fin 12, ∑ d : Fin 64, x (ix3 h s d) * W (ix3 h o d) := rfl

/-- What point `t` writes back is its block of the output projection. -/
theorem flushed_eq (c : Dev nD) (t : Fin cfg5.N) :
    (dat5 V c).flushed 3 t = (win5_3.blk t).view.read (Elt Ideal) (outAll (V c main_v20) (V c main_v23) (V c main_v24)) := by
  show (cfg5.win 3).cut (grid5.coords t) ((dat5 V c).after 3 t) = _
  rw [after5_3]
  refine funext fun (y : S1024x768.Idx) => ?_
  show out5_3 (iblk5 V c 0 t) (iblk5 V c 1 t) (iblk5 V c 2 t) y = outAll _ _ _ ((win5_3.rect t).emb y)
  obtain ⟨s, o, rfl⟩ : ∃ (s : Fin 1024) (o : Fin 768), y = ix2 s o := ⟨_, _, eq_ix2 y⟩
  rw [emb_out, pay_apply, outAll_apply, blk_b]
  simp_rw [blk_x, blk_W]

/-- The blocks tile the array. -/
theorem cover (y : S2048x768.Idx) : ∃ t : Fin cfg5.N, (cfg5.win 3).flush t = true ∧ y ∈ ((cfg5.win 3).blk t).view.set := by
  obtain ⟨s, o, rfl⟩ : ∃ (s : Fin 2048) (o : Fin 768), y = ix2 s o := ⟨_, _, eq_ix2 y⟩
  obtain ⟨t, ht⟩ : ∃ t : Fin cfg5.N, t.val = s.val / 1024 := ⟨⟨s.val / 1024, by rw [show cfg5.N = 2 from N_5]; omega⟩, rfl⟩
  refine ⟨t, flush5_3 _, ?_⟩
  rw [show ix2 s o = ((win5_3.rect t).emb (ix2 ⟨s.val % 1024, by omega⟩ o) : S2048x768.Idx) by
    rw [emb_out, ix2_inj]; exact ⟨Fin.ext (by show s.val = t.val * 1024 + s.val % 1024; omega), rfl⟩]
  exact Finset.mem_map_of_mem _ (Finset.mem_univ _)

/-- So the result array ends holding the output projection. -/
theorem value (c : Dev nD) : (dat5 V c).arrAt 3 cfg5.N = outAll (V c main_v20) (V c main_v23) (V c main_v24) :=
  (dat5 V c).arrAt_eq_of_cover 3 _ (fun t _ => flushed_eq V c t) cover

end Cert.KernelIdeal.Out
-- ==== Proof.KernelValue.lean ====
/-
  The kernel's result array, read back through the six kernels and the host operations between them to the arguments.
-/
module

public import proofs.«01_k».proof.Proof.Answer
public import proofs.«01_k».proof.Proof.Host
public import proofs.«01_k».proof.Proof.ProjQ
public import proofs.«01_k».proof.Proof.ProjK
public import proofs.«01_k».proof.Proof.ProjV
public import proofs.«01_k».proof.Proof.Ens
public import proofs.«01_k».proof.Proof.AttnArray
public import proofs.«01_k».proof.Proof.Out

@[expose] public section

noncomputable section

open Idealize.ShloMosaic Idealize.ShloMosaic.TcCoe Idealize.SL.Sem

namespace Cert.KernelIdeal.Value

open Cert.KernelIdeal Cert.KernelIdeal.Gen Cert.Attn

variable (m : (ℓ : Loc nD τ sig) → Buf (Elt Ideal) ℓ) (ρ : Dev nD → PrngReg) (c : Dev nD)

/-- The argument arrays by their coordinates. -/
abbrev x0 (s : Fin 2048) (e : Fin 768) : EReal := (m ((c : Thread nD τ).loc main_arg0) : S1x2048x768.Idx → EReal) (ix3 0 s e)
/-- The keys' rows. -/
abbrev x1 (s : Fin 2048) (e : Fin 768) : EReal := (m ((c : Thread nD τ).loc main_arg1) : S1x2048x768.Idx → EReal) (ix3 0 s e)
/-- The values' rows. -/
abbrev x2 (s : Fin 2048) (e : Fin 768) : EReal := (m ((c : Thread nD τ).loc main_arg2) : S1x2048x768.Idx → EReal) (ix3 0 s e)
/-- The query layer's weights. -/
abbrev w3 (o e : Fin 768) : EReal := (m ((c : Thread nD τ).loc main_arg3) : S768x768.Idx → EReal) (ix2 o e)
/-- The query layer's bias. -/
abbrev b4 (o : Fin 768) : EReal := (m ((c : Thread nD τ).loc main_arg4) : S768.Idx → EReal) (ix1 o)
/-- The key layer's weights. -/
abbrev w5 (o e : Fin 768) : EReal := (m ((c : Thread nD τ).loc main_arg5) : S768x768.Idx → EReal) (ix2 o e)
/-- The key layer's bias. -/
abbrev b6 (o : Fin 768) : EReal := (m ((c : Thread nD τ).loc main_arg6) : S768.Idx → EReal) (ix1 o)
/-- The value layer's weights. -/
abbrev w7 (o e : Fin 768) : EReal := (m ((c : Thread nD τ).loc main_arg7) : S768x768.Idx → EReal) (ix2 o e)
/-- The value layer's bias. -/
abbrev b8 (o : Fin 768) : EReal := (m ((c : Thread nD τ).loc main_arg8) : S768.Idx → EReal) (ix1 o)
/-- The output layer's weights. -/
abbrev w9 (o e : Fin 768) : EReal := (m ((c : Thread nD τ).loc main_arg9) : S768x768.Idx → EReal) (ix2 o e)
/-- The output layer's bias. -/
abbrev b10 (o : Fin 768) : EReal := (m ((c : Thread nD τ).loc main_arg10) : S768.Idx → EReal) (ix1 o)
/-- The temperature. -/
abbrev temp : EReal := (m ((c : Thread nD τ).loc main_arg11) : S1.Idx → EReal) (ix1 0)

/-- The query kernel's array holds the projected queries. -/
theorem queries (h : Fin 12) (d : Fin 64) (s : Fin 2048) :
    (W2 m ρ c (Proc.devRef .tc main_v11_0) : S12x64x2048.Idx → EReal) (ix3 h d s) = proj (x0 m c) (w3 m c) (b4 m c) h s d := by
  rw [show W2 m ρ c (Proc.devRef .tc main_v11_0) = ProjQ.projT (V1 m ρ c main_v8) (V1 m ρ c main_v9) (V1 m ρ c main_v10) from
    (W2_arr m ρ c 3).trans (ProjQ.value (V1 m ρ) c), ProjQ.projT_apply, show V1 m ρ c main_v10 (ix3 h d 0) = _ from Host.v10 (W0 m ρ c) h d]
  refine congrArg (· + _) (Finset.sum_congr rfl fun e _ => ?_)
  rw [show V1 m ρ c main_v8 (ix2 s e) = _ from Host.v8 (W0 m ρ c) s e, show V1 m ρ c main_v9 (ix3 h d e) = _ from Host.v9 (W0 m ρ c) h d e]
  exact mul_comm _ _

/-- What the key kernel leaves, in either of its arrays, at a regrouped row: the projected key of the window's row. -/
theorem keys (h : Fin 12) (d : Fin 64) (w : Fin 16) (n : Fin 128) :
    ProjQ.projT (V3 m ρ c main_v3) (V3 m ρ c main_v12) (V3 m ρ c main_v13) (ix3 h d (permRow w n))
      = proj (x1 m c) (w5 m c) (b6 m c) h (winRow n w) d := by
  have e3 : V3 m ρ c main_v3 = W1 m ρ c (Proc.devRef .tc main_v3) :=
    (W3_of m ρ c main_v3 (by decide)).trans (W2_of m ρ c main_v3 (by decide))
  have e5 : W2 m ρ c (Proc.devRef .tc main_arg5) = m ((c : Thread nD τ).loc main_arg5) := W2_args m ρ c _ (by decide)
  have e6 : W2 m ρ c (Proc.devRef .tc main_arg6) = m ((c : Thread nD τ).loc main_arg6) := W2_args m ρ c _ (by decide)
  rw [ProjQ.projT_apply, e3, show V3 m ρ c main_v13 (ix3 h d 0) = _ from Host.v13 (W2 m ρ c) h d, e6]
  refine congrArg (· + _) (Finset.sum_congr rfl fun e _ => ?_)
  rw [show W1 m ρ c (Proc.devRef .tc main_v3) (ix2 (permRow w n) e) = _ from Host.v3 (W0 m ρ c) w n e,
    show V3 m ρ c main_v12 (ix3 h d e) = _ from Host.v12 (W2 m ρ c) h d e, e5]
  exact mul_comm _ _

/-- What the value kernel leaves at a regrouped row: the projected value of the window's row. -/
theorem values (h : Fin 12) (d : Fin 64) (w : Fin 16) (n : Fin 128) :
    ProjV.projR (V5 m ρ c main_v7) (V5 m ρ c main_v15) (V5 m ρ c main_v16) (ix3 h (permRow w n) d)
      = proj (x2 m c) (w7 m c) (b8 m c) h (winRow n w) d := by
  have e7 : V5 m ρ c main_v7 = W1 m ρ c (Proc.devRef .tc main_v7) :=
    (W5_of m ρ c main_v7 (by decide)).trans ((W4_of m ρ c main_v7 (by decide)).trans
      ((W3_of m ρ c main_v7 (by decide)).trans (W2_of m ρ c main_v7 (by decide))))
  have a7 : W4 m ρ c (Proc.devRef .tc main_arg7) = m ((c : Thread nD τ).loc main_arg7) := W4_args m ρ c _ (by decide)
  have a8 : W4 m ρ c (Proc.devRef .tc main_arg8) = m ((c : Thread nD τ).loc main_arg8) := W4_args m ρ c _ (by decide)
  rw [ProjV.projR_apply, e7, show V5 m ρ c main_v16 (ix3 h 0 d) = _ from Host.v16 (W4 m ρ c) h d, a8]
  refine congrArg (· + _) (Finset.sum_congr rfl fun e _ => ?_)
  rw [show W1 m ρ c (Proc.devRef .tc main_v7) (ix2 (permRow w n) e) = _ from Host.v7 (W0 m ρ c) w n e,
    show V5 m ρ c main_v15 (ix3 h d e) = _ from Host.v15 (W4 m ρ c) h d e, a7]

/-- What the attention kernel is given, each array where it was last written. -/
theorem attn_inputs : V8 m ρ c main_v11_0 = W2 m ρ c (Proc.devRef .tc main_v11_0)
    ∧ V8 m ρ c main_v18 = Ens.ensAll (ProjQ.projT (V3 m ρ c main_v3) (V3 m ρ c main_v12) (V3 m ρ c main_v13))
    ∧ V8 m ρ c main_v14_1 = ProjQ.projT (V3 m ρ c main_v3) (V3 m ρ c main_v12) (V3 m ρ c main_v13)
    ∧ V8 m ρ c main_v17 = ProjV.projR (V5 m ρ c main_v7) (V5 m ρ c main_v15) (V5 m ρ c main_v16) := by
  refine ⟨?_, ?_, ?_, ?_⟩
  · exact (W8_of m ρ c main_v11_0 (by decide)).trans ((W7_of m ρ c main_v11_0 (by decide)).trans
      ((W6_of m ρ c main_v11_0 (by decide)).trans ((W5_of m ρ c main_v11_0 (by decide)).trans
      ((W4_of m ρ c main_v11_0 (by decide)).trans (W3_of m ρ c main_v11_0 (by decide))))))
  · refine (W8_of m ρ c main_v18 (by decide)).trans (((W7_arr m ρ c 1).trans (Ens.value (V6 m ρ) c)).trans (congrArg Ens.ensAll ?_))
    exact (W6_of m ρ c main_v14_0 (by decide)).trans ((W5_of m ρ c main_v14_0 (by decide)).trans
      ((W4_arr m ρ c 3).trans (ProjK.value (V3 m ρ) c)))
  · exact (W8_of m ρ c main_v14_1 (by decide)).trans ((W7_of m ρ c main_v14_1 (by decide)).trans
      ((W6_of m ρ c main_v14_1 (by decide)).trans ((W5_of m ρ c main_v14_1 (by decide)).trans
      ((W4_arr m ρ c 4).trans (ProjK.value4 (V3 m ρ) c)))))
  · exact (W8_of m ρ c main_v17 (by decide)).trans ((W7_of m ρ c main_v17 (by decide)).trans
      ((W6_arr m ρ c 3).trans (ProjV.value (V5 m ρ) c)))

/-- A query's result depends on its inputs' entries alone. -/
theorem attnK_congr {t : EReal} {q q' : Fin 64 → EReal} {E E' : Fin 128 → Fin 64 → Fin 64 → EReal}
    {k k' : Fin 128 → Fin 16 → Fin 64 → EReal} {v v' : Fin 128 → Fin 16 → EReal} (hq : ∀ e, q e = q' e)
    (hE : ∀ n i j, E n i j = E' n i j) (hk : ∀ n w e, k n w e = k' n w e) (hv : ∀ n w, v n w = v' n w) :
    Attn.attnK t q E k v = Attn.attnK t q' E' k' v' := by
  rw [funext hq, funext fun n => funext fun i => funext (hE n i), funext fun n => funext fun w => funext (hk n w),
    funext fun n => funext (hv n)]

/-- The attention kernel's array holds every head's results. -/
theorem heads (h : Fin 12) (s : Fin 2048) (d : Fin 64) :
    (W9 m ρ c (Proc.devRef .tc main_v20) : S12x2048x64.Idx → EReal) (ix3 h s d)
      = headOut (x0 m c) (x1 m c) (x2 m c) (w3 m c) (b4 m c) (w5 m c) (b6 m c) (w7 m c) (b8 m c) (temp m c) h s d := by
  obtain ⟨eq, eE, ek, ev⟩ := attn_inputs m ρ c
  have a11 : W7 m ρ c (Proc.devRef .tc main_arg11) = m ((c : Thread nD τ).loc main_arg11) := W7_args m ρ c _ (by decide)
  have e19 : (V8 m ρ c main_v19 : S1x1.Idx → EReal) (ix2 0 0) = temp m c := by
    rw [show V8 m ρ c main_v19 (ix2 0 0) = _ from Host.v19 (W7 m ρ c), a11]
  rw [show W9 m ρ c (Proc.devRef .tc main_v20) = _ from (W9_arr m ρ c 5).trans (Attn.value (V8 m ρ) c), Attn.attnAll_apply, e19, eq, eE, ek, ev]
  refine (attnK_congr (fun e => queries m ρ c h e s) (fun n i j => (Ens.ensAll_apply _ h i j n).trans (congrArg (ens · i j)
    (funext fun w => funext fun e => keys m ρ c h e w n))) (fun n w e => keys m ρ c h e w n) fun n w => values m ρ c h d w n).trans ?_
  exact all_windows _ _ _ (fun n w => proj (x2 m c) (w7 m c) (b8 m c) h (winRow n w)) d

/-- The kernel's result at row `s`, column `o`. -/
theorem result (s : Fin 2048) (o : Fin 768) :
    (W12 m ρ c (Proc.devRef .tc main_v26) : S1x2048x768.Idx → EReal) (ix3 0 s o)
      = answer (x0 m c) (x1 m c) (x2 m c) (w3 m c) (b4 m c) (w5 m c) (b6 m c) (w7 m c) (b8 m c) (w9 m c) (b10 m c) (temp m c) s o := by
  have a9 : W9 m ρ c (Proc.devRef .tc main_arg9) = m ((c : Thread nD τ).loc main_arg9) := W9_args m ρ c _ (by decide)
  have a10 : W9 m ρ c (Proc.devRef .tc main_arg10) = m ((c : Thread nD τ).loc main_arg10) := W9_args m ρ c _ (by decide)
  have e20 : V10 m ρ c main_v20 = W9 m ρ c (Proc.devRef .tc main_v20) := W10_of m ρ c main_v20 (by decide)
  rw [show W12 m ρ c (Proc.devRef .tc main_v26) (ix3 0 s o) = _ from Host.v26 (W11 m ρ c) s o,
    show W11 m ρ c (Proc.devRef .tc main_v25) = _ from (W11_arr m ρ c 3).trans (Out.value (V10 m ρ) c), Out.outAll_apply, e20,
    show V10 m ρ c main_v24 (ix2 0 o) = _ from Host.v24 (W9 m ρ c) o, a10, add_comm]
  refine congrArg (· + _) (Finset.sum_congr rfl fun h _ => Finset.sum_congr rfl fun d _ => ?_)
  rw [heads, show V10 m ρ c main_v23 (ix3 h o d) = _ from Host.v23 (W9 m ρ c) h o d, a9]

end Cert.KernelIdeal.Value
-- ==== Proof.RefHeads.lean ====
/-
  The reference's projected queries, keys and values, its unit vectors, its windows' ensembles and its scores.
-/
module

public import proofs.«01_k».proof.Proof.Answer
public import proofs.«01_k».proof.Proof.Gen.ReferenceIdeal.Read
public import Idealize.ShloMosaic.Lib.Pipeline.Value
public import Idealize.ShloMosaic.Lib.Pointwise

@[expose] public section

noncomputable section

open Idealize.ShloMosaic Idealize.ShloMosaic.TcCoe Idealize.SL.Sem

namespace Cert.ReferenceIdeal.Heads

open Cert.ReferenceIdeal Cert.ReferenceIdeal.Gen Cert.ReferenceIdeal.Read Cert.Attn

/-- The rows of a three-dimensional argument. -/
abbrev rows (x : S1x2048x768.Idx → EReal) (s : Fin 2048) (e : Fin 768) : EReal := x (ix3 0 s e)
/-- A layer's weights by their coordinates. -/
abbrev mat (W : S768x768.Idx → EReal) (o e : Fin 768) : EReal := W (ix2 o e)
/-- A layer's bias by its coordinate. -/
abbrev vec (b : S768.Idx → EReal) (o : Fin 768) : EReal := b (ix1 o)

variable (x0 x1 x2 : S1x2048x768.Idx → EReal) (x3 : S768x768.Idx → EReal) (x4 : S768.Idx → EReal) (x5 : S768x768.Idx → EReal)
  (x6 : S768.Idx → EReal) (x7 : S768x768.Idx → EReal) (x8 : S768.Idx → EReal) (x11 : S1.Idx → EReal)

/-- The projected queries. -/
theorem queries (h : Fin 12) (s : Fin 2048) (d : Fin 64) :
    val_main_v6 (F := Ideal) x0 x3 x4 (ix4 0 h s d) = proj (rows x0) (mat x3) (vec x4) h s d := by
  unfold proj
  pointwise [val_main_v6, val_main_v5, val_main_v4, val_main_v3, val_main_v2, val_main_v1, val_main_v0]

/-- The projected keys. -/
theorem keyRows (h : Fin 12) (s : Fin 2048) (d : Fin 64) :
    val_main_v13 (F := Ideal) x1 x5 x6 (ix4 0 h s d) = proj (rows x1) (mat x5) (vec x6) h s d := by
  unfold proj
  pointwise [val_main_v13, val_main_v12, val_main_v11, val_main_v10, val_main_v9, val_main_v8, val_main_v7]

/-- The projected values. -/
theorem valueRows (h : Fin 12) (s : Fin 2048) (d : Fin 64) :
    val_main_v20 (F := Ideal) x2 x7 x8 (ix4 0 h s d) = proj (rows x2) (mat x7) (vec x8) h s d := by
  unfold proj
  pointwise [val_main_v20, val_main_v19, val_main_v18, val_main_v17, val_main_v16, val_main_v15, val_main_v14]

/-- The projected keys, window by window. -/
theorem keys (h : Fin 12) (n : Fin 128) (w : Fin 16) (d : Fin 64) :
    val_main_v21 (F := Ideal) x1 x5 x6 (ix5 0 h n w d) = proj (rows x1) (mat x5) (vec x6) h (winRow n w) d := by
  rw [← keyRows]
  unfold val_main_v21
  generalize val_main_v13 (F := Ideal) x1 x5 x6 = y
  pointwise

/-- The projected values, window by window. -/
theorem values (h : Fin 12) (n : Fin 128) (w : Fin 16) (d : Fin 64) :
    val_main_v22 (F := Ideal) x2 x7 x8 (ix5 0 h n w d) = proj (rows x2) (mat x7) (vec x8) h (winRow n w) d := by
  rw [← valueRows]
  unfold val_main_v22
  generalize val_main_v20 (F := Ideal) x2 x7 x8 = y
  pointwise

/-- The weight of a window's row: one over the sixteen valid rows. -/
theorem weights (h : Fin 12) (n : Fin 128) (w : Fin 16) :
    val_main_v32 (F := Ideal) (ix4 0 h n w) = sixteenth := by
  pointwise [val_main_v32, val_main_v31, val_main_v30, val_main_v29, val_main_cst_1, val_main_v28, val_main_v27, val_main_cst_0,
    val_main_v26, val_main_v25, val_main_v24, val_main_v23, val_main_cst]
  have h16 : (∑ _x : Fin 16, (1 : EReal)) = ((16 : ℝ) : EReal) := by
    rw [Finset.sum_const, Finset.card_univ, Fintype.card_fin, nsmul_one]
    norm_cast
  have hm : max ((16 : ℝ) : EReal) 1 = ((16 : ℝ) : EReal) := max_eq_left (by rw [← EReal.coe_one]; exact EReal.coe_le_coe_iff.mpr (by norm_num))
  rw [h16, hm, Ideal.div_coe (by norm_num), sixteenth_eq, one_mul]

/-- The keys' unit vectors. -/
theorem unitKeys (h : Fin 12) (n : Fin 128) (w : Fin 16) (d : Fin 64) :
    val_main_v37 (F := Ideal) x1 x5 x6 (ix5 0 h n w d) = unit (proj (rows x1) (mat x5) (vec x6) h (winRow n w)) d := by
  unfold unit lenMin
  simp only [← keys]
  unfold val_main_v37 val_main_v36 val_main_v35 val_main_v34 val_main_v33 val_main_call0_v2 val_main_call0_v1 val_main_call0_v0
  generalize val_main_v21 (F := Ideal) x1 x5 x6 = y
  pointwise [val_main_cst_2, val_main_call0_cst]

/-- The windows' ensembles. -/
theorem ensembles (h : Fin 12) (n : Fin 128) (i j : Fin 64) :
    val_main_v41 (F := Ideal) x1 x5 x6 (ix5 0 h n i j) = ens (fun w => proj (rows x1) (mat x5) (vec x6) h (winRow n w)) i j := by
  have e : val_main_v41 (F := Ideal) x1 x5 x6 (ix5 0 h n i j)
      = ∑ w : Fin 16, val_main_v32 (F := Ideal) (ix4 0 h n w) * val_main_v37 (F := Ideal) x1 x5 x6 (ix5 0 h n w i)
        * val_main_v37 (F := Ideal) x1 x5 x6 (ix5 0 h n w j) := by
    unfold val_main_v41 val_main_v40 val_main_v39 val_main_v38
    generalize val_main_v37 (F := Ideal) x1 x5 x6 = y
    generalize val_main_v32 (F := Ideal) = z
    pointwise
  rw [e]
  simp only [weights, unitKeys]
  unfold ens
  rw [mul_comm, mul_sum_of_nonneg]
  · exact Finset.sum_congr rfl fun w _ => mul_assoc _ _ _
  · rw [sixteenth_eq]
    exact EReal.coe_nonneg.mpr (by norm_num)
  · rw [sixteenth_eq]
    exact EReal.coe_ne_top _

/-- The queries' unit vectors. -/
theorem unitQueries (h : Fin 12) (s : Fin 2048) (d : Fin 64) :
    val_main_v46 (F := Ideal) x0 x3 x4 (ix4 0 h s d) = unit (proj (rows x0) (mat x3) (vec x4) h s) d := by
  unfold unit lenMin
  simp only [← queries]
  unfold val_main_v46 val_main_v45 val_main_v44 val_main_v43 val_main_v42 val_main_call1_v2 val_main_call1_v1 val_main_call1_v0
  generalize val_main_v6 (F := Ideal) x0 x3 x4 = y
  pointwise [val_main_cst_3, val_main_call1_cst]

/-- The outer products of the queries' unit vectors. -/
theorem outer (h : Fin 12) (s : Fin 2048) (i j : Fin 64) :
    val_main_v51 (F := Ideal) x0 x3 x4 (ix5 0 h s i j)
      = unit (proj (rows x0) (mat x3) (vec x4) h s) i * unit (proj (rows x0) (mat x3) (vec x4) h s) j := by
  simp only [← unitQueries]
  unfold val_main_v51 val_main_v50 val_main_v49 val_main_v48 val_main_v47
  generalize val_main_v46 (F := Ideal) x0 x3 x4 = y
  pointwise

/-- The products of outer products and ensembles. -/
theorem raw (h : Fin 12) (s : Fin 2048) (n : Fin 128) :
    val_main_v52 (F := Ideal) x0 x1 x3 x4 x5 x6 (ix4 0 h s n)
      = ∑ i : Fin 64, ∑ j : Fin 64, val_main_v51 (F := Ideal) x0 x3 x4 (ix5 0 h s i j) * val_main_v41 (F := Ideal) x1 x5 x6 (ix5 0 h n j i) := by
  unfold val_main_v52
  generalize val_main_v51 (F := Ideal) x0 x3 x4 = y
  generalize val_main_v41 (F := Ideal) x1 x5 x6 = z
  pointwise

/-- The scores. -/
theorem scores (h : Fin 12) (s : Fin 2048) (n : Fin 128) :
    val_main_v57 (F := Ideal) x0 x1 x3 x4 x5 x6 x11 (ix4 0 h s n)
      = scoresOf (x11 (ix1 0)) (proj (rows x0) (mat x3) (vec x4) h s)
          (fun n w => proj (rows x1) (mat x5) (vec x6) h (winRow n w)) n := by
  have e : val_main_v57 (F := Ideal) x0 x1 x3 x4 x5 x6 x11 (ix4 0 h s n)
      = Ideal.div (val_main_v52 (F := Ideal) x0 x1 x3 x4 x5 x6 (ix4 0 h s n)) (max (x11 (ix1 0)) tempMin) := by
    unfold tempMin val_main_v57
    generalize val_main_v52 (F := Ideal) x0 x1 x3 x4 x5 x6 = y
    pointwise [val_main_v56, val_main_v55, val_main_v54, val_main_v53, val_main_cst_4]
  rw [e, raw]
  simp only [outer, ensembles]
  refine congrArg (Ideal.div · _) (Finset.sum_congr rfl fun i _ => Finset.sum_congr rfl fun j _ => congrArg₂ (· * ·) rfl ?_)
  unfold ens
  simp only [mul_comm (unit _ j)]

end Cert.ReferenceIdeal.Heads
-- ==== Proof.RefTop.lean ====
/-
  The reference's list of the four largest: its values and places are the first four of the stable descending order.
-/
module

public import proofs.«01_k».proof.Proof.Order
public import proofs.«01_k».proof.Proof.Gen.ReferenceIdeal.Read
public import Idealize.ShloMosaic.Lib.Pipeline.Value
public import Idealize.ShloMosaic.Lib.Pointwise

@[expose] public section

noncomputable section

open Idealize.ShloMosaic Idealize.ShloMosaic.TcCoe Idealize.SL.Sem

namespace Cert.ReferenceIdeal.Top

open Cert.ReferenceIdeal Cert.ReferenceIdeal.Gen Cert.ReferenceIdeal.Read Cert.Attn

/-- A position of a prefix as a position of the whole. -/
abbrev cut {s t : Shape} (h : s.Slices (fun _ => 0) t) (i : t.Idx) : s.Idx := fun a =>
  ⟨0 + (i (a.cast h.1.symm)).val, Nat.lt_of_lt_of_le (Nat.add_lt_add_left (Fin.isLt _) _) (h.2 a)⟩

/-- The place the sort along axis `d` moves to position `i` of the prefix. -/
def src {α : Type} {s t : Shape} (d : ℕ) (gt : α → α → BitVec 1) (x : s.Idx → α) (h : s.Slices (fun _ => 0) t) (hd : d < s.rank)
    (i : t.Idx) : s.Idx := (cut h i).along ⟨d, hd⟩
  (sortedFrom (fun k k' => gt (x ((cut h i).along ⟨d, hd⟩ k)) (x ((cut h i).along ⟨d, hd⟩ k')) == 1#1) (cut h i ⟨d, hd⟩))

/-- The sorted prefix's values at a position: the array at the place the sort moves there. -/
theorem topK_fst {α : Type} {s : Shape} (t : Shape) (d : ℕ) (gt : α → α → BitVec 1) (x : s.Idx → α) (h : s.Slices (fun _ => 0) t)
    (hd : d < s.rank) (i : t.Idx) : (Host.topK t d gt x h).1 i = x (src d gt x h hd i) := by
  simp only [Host.topK, Host.sort2, dif_pos hd]
  rfl

/-- The sorted prefix's indices at a position: the place the sort moves there. -/
theorem topK_snd {α : Type} {s : Shape} (t : Shape) (d : ℕ) (gt : α → α → BitVec 1) (x : s.Idx → α) (h : s.Slices (fun _ => 0) t)
    (hd : d < s.rank) (i : t.Idx) : (Host.topK t d gt x h).2 i = iotaInDim s 32 ⟨d, hd⟩ (src d gt x h hd i) := by
  simp only [Host.topK, Host.sort2, dif_pos hd]
  rfl

variable (y : S1x12x2048x128.Idx → EReal) (h : Fin 12) (s : Fin 2048) (k : Fin 4)

/-- The array sorted along its last axis, largest first, with the places the entries came from. -/
abbrev top4 := Host.topK S1x12x2048x4 3 (FloatOps.cmpfTotal (F := Ideal) (φ := .f32) .gt) y sliceFits_S1x12x2048x128_S1x12x2048x4

/-- The place the `k`-th largest entry came from. -/
abbrev place : Fin 128 := order (fun n => y (ix4 0 h s n)) ⟨k.val, by omega⟩

/-- Position `k` of the shorter row as a position of the whole row. -/
abbrev pos : S1x12x2048x128.Idx := cut sliceFits_S1x12x2048x128_S1x12x2048x4 (ix4 0 h s k)

/-- It has the same coordinates. -/
theorem pos_eq : pos h s k = ix4 0 h s ⟨k.val, by omega⟩ := funext fun a => Fin.ext (by
  match a with
  | ⟨0, _⟩ => rfl
  | ⟨1, _⟩ => exact Nat.zero_add _
  | ⟨2, _⟩ => exact Nat.zero_add _
  | ⟨3, _⟩ => exact Nat.zero_add _)

/-- The axis the sort runs along. -/
abbrev lastAxis : Fin S1x12x2048x128.rank := ⟨3, by decide⟩

/-- Moving along the last axis changes the last coordinate. -/
theorem along_eq (m n : Fin 128) : (ix4 0 h s m : S1x12x2048x128.Idx).along lastAxis n = ix4 0 h s n := funext fun a => by
  match a with
  | ⟨0, _⟩ => rfl
  | ⟨1, _⟩ => rfl
  | ⟨2, _⟩ => rfl
  | ⟨3, _⟩ => rfl

/-- Comparing an array's entries along its last axis is comparing the row's numbers. -/
theorem compared (m : Fin 128) : (fun k k' : Fin 128 => FloatOps.cmpfTotal (F := Ideal) (φ := .f32) .gt
      (y ((ix4 0 h s m : S1x12x2048x128.Idx).along lastAxis k)) (y ((ix4 0 h s m : S1x12x2048x128.Idx).along lastAxis k')) == 1#1)
    = fun k k' => decide (y (ix4 0 h s k') < y (ix4 0 h s k)) := by
  refine funext fun k => funext fun k' => ?_
  rw [along_eq, along_eq]
  show (BitVec.ofBool (decide (y (ix4 0 h s k') < y (ix4 0 h s k))) == 1#1) = _
  cases decide (y (ix4 0 h s k') < y (ix4 0 h s k)) <;> rfl

/-- The position the `k`-th largest entry is moved from. -/
theorem moved : src 3 (FloatOps.cmpfTotal (F := Ideal) (φ := .f32) .gt) y sliceFits_S1x12x2048x128_S1x12x2048x4 (by decide) (ix4 0 h s k)
    = ix4 0 h s (place y h s k) := by
  unfold src
  rw [show cut sliceFits_S1x12x2048x128_S1x12x2048x4 (ix4 0 h s k) = ix4 0 h s ⟨k.val, by omega⟩ from pos_eq h s k]
  rw [show (fun k₁ k₂ => FloatOps.cmpfTotal (F := Ideal) (φ := .f32) .gt (y ((ix4 0 h s ⟨k.val, by omega⟩ : S1x12x2048x128.Idx).along lastAxis k₁))
    (y ((ix4 0 h s ⟨k.val, by omega⟩ : S1x12x2048x128.Idx).along lastAxis k₂)) == 1#1) = _ from compared y h s ⟨k.val, by omega⟩]
  exact along_eq h s _ (place y h s k)

/-- The `k`-th value is the entry at its place. -/
theorem value : (top4 y).1 (ix4 0 h s k) = y (ix4 0 h s (place y h s k)) := by
  rw [topK_fst (hd := by decide), moved]

/-- The `k`-th index is its place. -/
theorem index : (top4 y).2 (ix4 0 h s k) = BitVec.ofNat 32 (place y h s k).val := by
  rw [topK_snd (hd := by decide), moved]
  generalize place y h s k = p
  rfl

end Cert.ReferenceIdeal.Top
-- ==== Proof.RefTake.lean ====
/-
  The reference's reading of the chosen windows: at a place that names a window, the gathered array holds that window.
-/
module

public import proofs.«01_k».proof.Proof.Spec
public import proofs.«01_k».proof.Proof.Gen.ReferenceIdeal.Read
public import Idealize.ShloMosaic.Lib.Pipeline.Value
public import Idealize.ShloMosaic.Lib.Pointwise
public import Idealize.ShloMosaic.Lib.ValueIdxRank6

@[expose] public section

noncomputable section

open Idealize.ShloMosaic Idealize.ShloMosaic.TcCoe Idealize.SL.Sem

namespace Cert.ReferenceIdeal.Take

open Cert.ReferenceIdeal Cert.ReferenceIdeal.Gen Cert.ReferenceIdeal.Read Cert.Attn

variable (h : Fin 12) (s : Fin 2048) (k : Fin 4) (w : Fin 16) (d : Fin 64) (p : Fin 128)

/-- The indices with a wrapped negative one replaced by its place from the end, as a list of places of one number each. -/
def start (ind : S1x12x2048x4.Idx → BitVec 32) : S12x2048x4x1.Idx → BitVec 32 :=
  shapeCast _ (select (cmpi .slt (broadcastInDim S1x12x2048x4x1x1 ![0, 1, 2, 3] bcast_S1x12x2048x4_S1x12x2048x4x1x1_0_1_2_3 ind)
      (broadcastInDim S1x12x2048x4x1x1 ![] bcast_S_S1x12x2048x4x1x1 (constantI S_ 32 0#32)))
    (addi (broadcastInDim S1x12x2048x4x1x1 ![0, 1, 2, 3] bcast_S1x12x2048x4_S1x12x2048x4x1x1_0_1_2_3 ind)
      (broadcastInDim S1x12x2048x4x1x1 ![] bcast_S_S1x12x2048x4x1x1 (constantI S_ 32 128#32)))
    (broadcastInDim S1x12x2048x4x1x1 ![0, 1, 2, 3] bcast_S1x12x2048x4_S1x12x2048x4x1x1_0_1_2_3 ind))
    shapeCasts_S1x12x2048x4x1x1_S12x2048x4x1

/-- A window's number is not negative. -/
theorem not_negative (p : Fin 128) : IntOp.cmpi .slt (BitVec.ofNat 32 p.val) 0#32 = 0#1 := by
  revert p; decide +kernel

/-- At an index that names window `p` the place is `p`. -/
theorem start_apply (ind : S1x12x2048x4.Idx → BitVec 32) (hp : ind (ix4 0 h s k) = BitVec.ofNat 32 p.val) :
    start ind (ix4 h s k 0) = BitVec.ofNat 32 p.val := by
  unfold start
  rw [shapeCast_apply _ _ (ix4 h s k 0) (ix6 0 h s k 0 0) (by
    rw [Shape.rowMajor_val_six, Shape.rowMajor_val_four]
    show ((((0 * 12 + h.val) * 2048 + s.val) * 4 + k.val) * 1 + 0) * 1 + 0 = ((h.val * 2048 + s.val) * 4 + k.val) * 1 + 0
    omega)]
  have e : broadcastInDim S1x12x2048x4x1x1 ![0, 1, 2, 3] bcast_S1x12x2048x4_S1x12x2048x4x1x1_0_1_2_3 ind (ix6 0 h s k 0 0)
      = BitVec.ofNat 32 p.val := by
    rw [← hp]
    pointwise
  show Scalar.select (IntOp.cmpi .slt (broadcastInDim S1x12x2048x4x1x1 ![0, 1, 2, 3] bcast_S1x12x2048x4_S1x12x2048x4x1x1_0_1_2_3 ind (ix6 0 h s k 0 0)) 0#32) _
    (broadcastInDim S1x12x2048x4x1x1 ![0, 1, 2, 3] bcast_S1x12x2048x4_S1x12x2048x4x1x1_0_1_2_3 ind (ix6 0 h s k 0 0)) = _
  rw [e, not_negative]
  rfl

/-- A window's number is from 0 to 127. -/
theorem window_range (p : Fin 128) : IntOp.andi (IntOp.cmpi .sge (BitVec.ofNat 32 p.val) 0#32)
    (IntOp.cmpi .sle (BitVec.ofNat 32 p.val) 127#32) = 1#1 := by
  revert p; decide +kernel

/-- Read as a signed number and kept below 128 it is itself. -/
theorem window_number (p : Fin 128) : min (BitVec.ofNat 32 p.val).toInt.toNat (128 - 1) = p.val := by
  revert p; decide +kernel

/-- Whether a place lies among the 128 windows. -/
def inRange (st : S12x2048x4x1.Idx → BitVec 32) : S12x2048x4.Idx → BitVec 1 :=
  Host.reduce IntOp.andi (andi (cmpi .sge st (broadcastInDim S12x2048x4x1 ![] bcast_S_S12x2048x4x1 (constantI S_ 32 0#32)))
      (cmpi .sle st (broadcastInDim S12x2048x4x1 ![0, 1, 2, 3] bcast_S1x1x1x1_S12x2048x4x1_0_1_2_3
        (broadcastInDim S1x1x1x1 ![3] bcast_S1_S1x1x1x1_3 (constantI S1 32 127#32)))))
    (constantI S_ 1 1#1) reducesTo_S12x2048x4x1_S12x2048x4_d3 h_S_

/-- A place that is a window's number lies among them. -/
theorem inRange_apply (st : S12x2048x4x1.Idx → BitVec 32) (hp : st (ix4 h s k 0) = BitVec.ofNat 32 p.val) :
    inRange st (ix3 h s k) = 1#1 := by
  unfold inRange
  pointwise
  rw [show (fun x : Fin 1 => IntOp.andi (IntOp.cmpi .sge (st (ix4 h s k x)) 0#32) (IntOp.cmpi .sle (st (ix4 h s k x)) 127#32))
    = fun _ => 1#1 from funext fun x => by rw [Subsingleton.elim x 0, hp]; exact window_range p]
  rfl

/-- The dimension numbers rows are gathered by. -/
abbrev rowDims := gather_S1x12x128x16x64_S12x2048x4x1_S1x12x2048x4x16x64_045_2_1_0_2_3_1111664

/-- The gathered rows at a window's number: the window's. -/
theorem gather_rows (y : S1x12x128x16x64.Idx → EReal) (st : S12x2048x4x1.Idx → BitVec 32) (hp : st (ix4 h s k 0) = BitVec.ofNat 32 p.val) :
    Host.gather rowDims y st (ix6 0 h s k w d) = y (ix5 0 h p w d) := by
  unfold Host.gather
  refine congrArg y (funext fun a => Fin.ext ?_)
  show rowDims.start (ix6 0 h s k w d) st a + rowDims.batchCoord (ix6 0 h s k w d) a + rowDims.offCoord (ix6 0 h s k w d) a = _
  match a with
  | ⟨0, _⟩ => rfl
  | ⟨1, _⟩ =>
    rw [GatherDims.start_batching _ _ _ _ (by decide +revert), GatherDims.offCoord_eq_zero _ _ _ (by decide +revert)]
    unfold GatherDims.batchCoord
    rw [dif_pos (by decide +revert), Nat.add_zero, Nat.zero_add]
    rfl
  | ⟨2, _⟩ =>
    rw [GatherDims.batchCoord_eq_zero _ _ _ (by decide +revert), GatherDims.offCoord_eq_zero _ _ _ (by decide +revert)]
    unfold GatherDims.start
    rw [dif_pos (by decide +revert), Nat.add_zero]
    refine Eq.trans ?_ (window_number p)
    rw [← hp]
    refine congrArg (fun i => min (st i).toInt.toNat (128 - 1)) (funext fun b => Fin.ext ?_)
    match b with
    | ⟨0, _⟩ => rfl
    | ⟨1, _⟩ => rfl
    | ⟨2, _⟩ => rfl
    | ⟨3, _⟩ => rfl
  | ⟨3, _⟩ =>
    rw [GatherDims.batchCoord_eq_zero _ _ _ (by decide +revert)]
    unfold GatherDims.start GatherDims.offCoord
    rw [dif_neg (by decide +revert), dif_pos (by decide +revert), Nat.add_zero, Nat.zero_add]
    rfl
  | ⟨4, _⟩ =>
    rw [GatherDims.batchCoord_eq_zero _ _ _ (by decide +revert)]
    unfold GatherDims.start GatherDims.offCoord
    rw [dif_neg (by decide +revert), dif_pos (by decide +revert), Nat.add_zero, Nat.zero_add]
    rfl

/-- A choice between two arrays, at one index. -/
theorem select_apply {S : Shape} (c : S.Idx → BitVec 1) (a b : S.Idx → EReal) (i : S.Idx) :
    select c a b i = Scalar.select (c i) (a i) (b i) := rfl

/-- A choice under a true condition is the first. -/
theorem select_true (a b : EReal) : Scalar.select 1#1 a b = a := if_pos rfl

/-- The windows' rows as the table they are gathered from. -/
def table (y : S1x12x128x16x64.Idx → EReal) : S1x12x128x16x64.Idx → EReal :=
  shapeCast _ (broadcastInDim S1x12x1x128x16x64 ![0, 1, 3, 4, 5] bcast_S1x12x128x16x64_S1x12x1x128x16x64_0_1_3_4_5 y)
    shapeCasts_S1x12x1x128x16x64_S1x12x128x16x64

/-- The table holds the rows as they were. -/
theorem table_apply (y : S1x12x128x16x64.Idx → EReal) : table y (ix5 0 h p w d) = y (ix5 0 h p w d) := by
  unfold table
  rw [shapeCast_apply _ _ (ix5 0 h p w d) (ix6 0 h 0 p w d) (by
    rw [Shape.rowMajor_val_six, Shape.rowMajor_val_five]
    show ((((0 * 12 + h.val) * 1 + 0) * 128 + p.val) * 16 + w.val) * 64 + d.val = (((0 * 12 + h.val) * 128 + p.val) * 16 + w.val) * 64 + d.val
    omega)]
  pointwise

/-- The chosen windows' rows, with a filler where a place names none. -/
def taken (y : S1x12x128x16x64.Idx → EReal) (ind : S1x12x2048x4.Idx → BitVec 32) : S1x12x2048x4x16x64.Idx → EReal :=
  select (broadcastInDim S1x12x2048x4x16x64 ![1, 2, 3] bcast_S12x2048x4_S1x12x2048x4x16x64_1_2_3 (inRange (start ind)))
    (Host.gather rowDims (table y) (start ind))
    (broadcastInDim S1x12x2048x4x16x64 ![] bcast_S_S1x12x2048x4x16x64 (constant (F := Ideal) S_ .f32 0x7FC00000#32))

/-- At an index that names window `p` the taken rows are the window's. -/
theorem taken_apply (y : S1x12x128x16x64.Idx → EReal) (ind : S1x12x2048x4.Idx → BitVec 32)
    (hp : ind (ix4 0 h s k) = BitVec.ofNat 32 p.val) : taken y ind (ix6 0 h s k w d) = y (ix5 0 h p w d) := by
  have hs := start_apply h s k p ind hp
  have e : broadcastInDim S1x12x2048x4x16x64 ![1, 2, 3] bcast_S12x2048x4_S1x12x2048x4x16x64_1_2_3 (inRange (start ind)) (ix6 0 h s k w d)
      = 1#1 := by
    rw [← inRange_apply h s k p (start ind) hs]
    generalize inRange (start ind) = z
    pointwise
  unfold taken
  rw [select_apply, e, gather_rows h s k w d p _ _ hs, table_apply, select_true]

/-- The rows' validity, taken the same way: every row of every window is valid. -/
def valid (ind : S1x12x2048x4.Idx → BitVec 32) : S1x12x2048x4x16.Idx → EReal :=
  select (broadcastInDim S1x12x2048x4x16 ![1, 2, 3] bcast_S12x2048x4_S1x12x2048x4x16_1_2_3 (inRange (start ind)))
    (Host.gather gather_S1x12x128x16_S12x2048x4x1_S1x12x2048x4x16_04_2_1_0_2_3_11116 (val_main_call4_v6 (F := Ideal)) (start ind))
    (broadcastInDim S1x12x2048x4x16 ![] bcast_S_S1x12x2048x4x16 (constant (F := Ideal) S_ .f32 0x7FC00000#32))

/-- At an index that names a window the validity is one. -/
theorem valid_apply (ind : S1x12x2048x4.Idx → BitVec 32) (hp : ind (ix4 0 h s k) = BitVec.ofNat 32 p.val) :
    valid ind (ix5 0 h s k w) = 1 := by
  have hs := start_apply h s k p ind hp
  have e : broadcastInDim S1x12x2048x4x16 ![1, 2, 3] bcast_S12x2048x4_S1x12x2048x4x16_1_2_3 (inRange (start ind)) (ix5 0 h s k w)
      = 1#1 := by
    rw [← inRange_apply h s k p (start ind) hs]
    generalize inRange (start ind) = z
    pointwise
  have one : ∀ i, val_main_call4_v6 (F := Ideal) i = 1 := fun i => by
    obtain ⟨a, b, c, f, rfl⟩ : ∃ a b c f, i = ix4 a b c f := ⟨_, _, _, _, eq_ix4 i⟩
    pointwise [val_main_call4_v6, val_main_v75, val_main_v26, val_main_v25, val_main_v24, val_main_v23, val_main_cst]
  unfold valid Host.gather
  rw [select_apply, e, one, select_true]

variable (x0 x1 x2 : S1x2048x768.Idx → EReal) (x3 : S768x768.Idx → EReal) (x4 : S768.Idx → EReal) (x5 : S768x768.Idx → EReal)
  (x6 : S768.Idx → EReal) (x7 : S768x768.Idx → EReal) (x8 : S768.Idx → EReal) (x11 : S1.Idx → EReal)

/-- The reference's chosen keys are taken so. -/
theorem keys_taken : val_main_v71 (F := Ideal) x0 x1 x3 x4 x5 x6 x11
    = taken (val_main_v21 (F := Ideal) x1 x5 x6) (val_main_indices (F := Ideal) x0 x1 x3 x4 x5 x6 x11) := by
  unfold val_main_v71 val_main_call2_v16 val_main_call2_cst val_main_call2_v15 val_main_call2_v14 val_main_call2_v13 val_main_call2_c_3
    val_main_call2_v12 val_main_call2_v11 val_main_call2_v10 val_main_call2_v9 val_main_call2_v8 val_main_call2_v7 val_main_call2_c_2
    val_main_call2_c_1 val_main_call2_v6 val_main_call2_v5 val_main_call2_v4 val_main_call2_v3 val_main_call2_v2 val_main_call2_c_0
    val_main_call2_v1 val_main_call2_v0 val_main_call2_c val_main_v70 val_main_v69
  generalize val_main_indices (F := Ideal) x0 x1 x3 x4 x5 x6 x11 = ind
  generalize val_main_v21 (F := Ideal) x1 x5 x6 = y
  rfl

/-- So are its chosen values. -/
theorem values_taken : val_main_v74 (F := Ideal) x0 x1 x2 x3 x4 x5 x6 x7 x8 x11
    = taken (val_main_v22 (F := Ideal) x2 x7 x8) (val_main_indices (F := Ideal) x0 x1 x3 x4 x5 x6 x11) := by
  unfold val_main_v74 val_main_call3_v16 val_main_call3_cst val_main_call3_v15 val_main_call3_v14 val_main_call3_v13 val_main_call3_c_3
    val_main_call3_v12 val_main_call3_v11 val_main_call3_v10 val_main_call3_v9 val_main_call3_v8 val_main_call3_v7 val_main_call3_c_2
    val_main_call3_c_1 val_main_call3_v6 val_main_call3_v5 val_main_call3_v4 val_main_call3_v3 val_main_call3_v2 val_main_call3_c_0
    val_main_call3_v1 val_main_call3_v0 val_main_call3_c val_main_v73 val_main_v72
  generalize val_main_indices (F := Ideal) x0 x1 x3 x4 x5 x6 x11 = ind
  generalize val_main_v22 (F := Ideal) x2 x7 x8 = y
  rfl

/-- The places of the validity's rows are the same ones. -/
theorem start_valid : val_main_call4_v5 (F := Ideal) x0 x1 x3 x4 x5 x6 x11 = start (val_main_indices (F := Ideal) x0 x1 x3 x4 x5 x6 x11) := by
  unfold val_main_call4_v5 val_main_call4_v4 val_main_call4_v3 val_main_call4_v2 val_main_call4_c_0
    val_main_call4_v1 val_main_call4_v0 val_main_call4_c val_main_v76
  generalize val_main_indices (F := Ideal) x0 x1 x3 x4 x5 x6 x11 = ind
  refine funext fun i => ?_
  obtain ⟨h, s, k, z, rfl⟩ : ∃ h s k z, i = ix4 h s k z := ⟨_, _, _, _, eq_ix4 i⟩
  unfold start
  rw [shapeCast_apply _ _ (ix4 h s k z) (ix6 0 h s k 0 z) (by
    rw [Shape.rowMajor_val_six, Shape.rowMajor_val_four]
    show ((((0 * 12 + h.val) * 2048 + s.val) * 4 + k.val) * 1 + 0) * 1 + z.val = ((h.val * 2048 + s.val) * 4 + k.val) * 1 + z.val
    omega)]
  pointwise

/-- The reference's rows' validity is taken so. -/
theorem valid_taken : val_main_v77 (F := Ideal) x0 x1 x3 x4 x5 x6 x11
    = valid (val_main_indices (F := Ideal) x0 x1 x3 x4 x5 x6 x11) := by
  unfold val_main_v77 val_main_call4_v16 val_main_call4_cst val_main_call4_v15 val_main_call4_v14 val_main_call4_v13 val_main_call4_c_3
    val_main_call4_v12 val_main_call4_v11 val_main_call4_v10 val_main_call4_v9 val_main_call4_v8 val_main_call4_v7 val_main_call4_c_2
    val_main_call4_c_1
  rw [start_valid]
  generalize val_main_indices (F := Ideal) x0 x1 x3 x4 x5 x6 x11 = ind
  rfl

end Cert.ReferenceIdeal.Take
-- ==== Proof.RefValue.lean ====
/-
  The reference's two softmaxes, its weighing of the chosen windows' values and its output layer: the result is `answer`.
-/
module

public import proofs.«01_k».proof.Proof.RefHeads
public import proofs.«01_k».proof.Proof.RefTop
public import proofs.«01_k».proof.Proof.RefTake
public import proofs.«01_k».proof.Proof.Consts

@[expose] public section

noncomputable section

open Idealize.ShloMosaic Idealize.ShloMosaic.TcCoe Idealize.SL.Sem

namespace Cert.ReferenceIdeal.Result

open Cert.ReferenceIdeal Cert.ReferenceIdeal.Gen Cert.ReferenceIdeal.Read Cert.ReferenceIdeal.Heads Cert.Attn

variable (x0 x1 x2 : S1x2048x768.Idx → EReal) (x3 : S768x768.Idx → EReal) (x4 : S768.Idx → EReal) (x5 : S768x768.Idx → EReal)
  (x6 : S768.Idx → EReal) (x7 : S768x768.Idx → EReal) (x8 : S768.Idx → EReal) (x9 : S768x768.Idx → EReal) (x10 : S768.Idx → EReal)
  (x11 : S1.Idx → EReal) (h : Fin 12) (s : Fin 2048)

/-- A head's projected query at a row. -/
abbrev query : Fin 64 → EReal := proj (rows x0) (mat x3) (vec x4) h s

/-- A head's rows of a projection, window by window. -/
abbrev windows (x : S1x2048x768.Idx → EReal) (W : S768x768.Idx → EReal) (b : S768.Idx → EReal) (h : Fin 12) (n : Fin 128) (w : Fin 16) :
    Fin 64 → EReal := proj (rows x) (mat W) (vec b) h (winRow n w)

/-- The scores of the 128 windows for a query. -/
abbrev scored : Fin 128 → EReal := scoresOf (x11 (ix1 0)) (query x0 x3 x4 h s) (windows x1 x5 x6 h)

/-- The window of the `k`-th best score. -/
abbrev chosen (k : Fin 4) : Fin 128 := best (scored x0 x1 x3 x4 x5 x6 x11 h s) k

/-- The row of scores the reference sorts. -/
theorem score_row : (fun n => val_main_v57 (F := Ideal) x0 x1 x3 x4 x5 x6 x11 (ix4 0 h s n)) = scored x0 x1 x3 x4 x5 x6 x11 h s :=
  funext fun n => scores x0 x1 x3 x4 x5 x6 x11 h s n

/-- The place the reference takes its `k`-th best score from is the chosen window. -/
theorem place_chosen (k : Fin 4) : Top.place (val_main_v57 (F := Ideal) x0 x1 x3 x4 x5 x6 x11) h s k = chosen x0 x1 x3 x4 x5 x6 x11 h s k := by
  show best (fun n => val_main_v57 (F := Ideal) x0 x1 x3 x4 x5 x6 x11 (ix4 0 h s n)) k = _
  rw [score_row]

/-- The best scores. -/
theorem best_score (k : Fin 4) : val_main_values (F := Ideal) x0 x1 x3 x4 x5 x6 x11 (ix4 0 h s k)
    = scored x0 x1 x3 x4 x5 x6 x11 h s (chosen x0 x1 x3 x4 x5 x6 x11 h s k) := by
  rw [← place_chosen, ← score_row]
  exact Top.value (val_main_v57 (F := Ideal) x0 x1 x3 x4 x5 x6 x11) h s k

/-- The best scores' windows. -/
theorem best_index (k : Fin 4) : val_main_indices (F := Ideal) x0 x1 x3 x4 x5 x6 x11 (ix4 0 h s k)
    = BitVec.ofNat 32 (chosen x0 x1 x3 x4 x5 x6 x11 h s k).val := by
  rw [← place_chosen]
  exact Top.index (val_main_v57 (F := Ideal) x0 x1 x3 x4 x5 x6 x11) h s k

/-- The softmax of the best scores. -/
theorem shares (k : Fin 4) : val_main_v68 (F := Ideal) x0 x1 x3 x4 x5 x6 x11 (ix4 0 h s k)
    = soft (fun k => scored x0 x1 x3 x4 x5 x6 x11 h s (chosen x0 x1 x3 x4 x5 x6 x11 h s k)) k := by
  rw [show (fun k => scored x0 x1 x3 x4 x5 x6 x11 h s (chosen x0 x1 x3 x4 x5 x6 x11 h s k))
    = fun k => val_main_values (F := Ideal) x0 x1 x3 x4 x5 x6 x11 (ix4 0 h s k) from funext fun k => (best_score x0 x1 x3 x4 x5 x6 x11 h s k).symm]
  unfold soft
  have e : ∀ y : Fin 4 → EReal, max bottom (top y) = top y := fun y => by rw [bottom_eq]; exact max_eq_right bot_le
  rw [← e]
  unfold top bottom val_main_v68 val_main_v67 val_main_v66 val_main_v65 val_main_v64 val_main_v63 val_main_v62 val_main_v61 val_main_v60
    val_main_v59 val_main_v58
  generalize val_main_values (F := Ideal) x0 x1 x3 x4 x5 x6 x11 = y
  pointwise [val_main_cst_5, val_main_cst_6, val_main_cst_7]

/-- The keys of the chosen windows. -/
theorem chosen_keys (k : Fin 4) (w : Fin 16) (d : Fin 64) : val_main_v71 (F := Ideal) x0 x1 x3 x4 x5 x6 x11 (ix6 0 h s k w d)
    = windows x1 x5 x6 h (chosen x0 x1 x3 x4 x5 x6 x11 h s k) w d := by
  rw [Take.keys_taken, Take.taken_apply h s k w d _ _ _ (best_index x0 x1 x3 x4 x5 x6 x11 h s k), keys]

/-- The values of the chosen windows. -/
theorem chosen_values (k : Fin 4) (w : Fin 16) (d : Fin 64) : val_main_v74 (F := Ideal) x0 x1 x2 x3 x4 x5 x6 x7 x8 x11 (ix6 0 h s k w d)
    = windows x2 x7 x8 h (chosen x0 x1 x3 x4 x5 x6 x11 h s k) w d := by
  rw [Take.values_taken, Take.taken_apply h s k w d _ _ _ (best_index x0 x1 x3 x4 x5 x6 x11 h s k), values]

/-- Every row of the chosen windows is valid. -/
theorem chosen_valid (k : Fin 4) (w : Fin 16) : val_main_v77 (F := Ideal) x0 x1 x3 x4 x5 x6 x11 (ix5 0 h s k w) = 1 := by
  rw [Take.valid_taken, Take.valid_apply h s k w _ _ (best_index x0 x1 x3 x4 x5 x6 x11 h s k)]

/-- A query's scaled products with the chosen windows' keys. -/
theorem products (k : Fin 4) (w : Fin 16) : val_main_v80 (F := Ideal) x0 x1 x3 x4 x5 x6 x11 (ix5 0 h s k w)
    = near (query x0 x3 x4 h s) (windows x1 x5 x6 h (chosen x0 x1 x3 x4 x5 x6 x11 h s k)) w := by
  unfold near eighth
  simp only [← chosen_keys x0 x1 x3 x4 x5 x6 x11 h s k, ← queries]
  unfold val_main_v80 val_main_v78 val_main_v79
  generalize val_main_v71 (F := Ideal) x0 x1 x3 x4 x5 x6 x11 = y
  generalize val_main_v6 (F := Ideal) x0 x3 x4 = z
  pointwise [val_main_cst_8]

/-- A comparison of two arrays, at one index. -/
theorem compare_apply {S : Shape} (a b : S.Idx → EReal) (i : S.Idx) :
    cmpf (F := Ideal) (φ := .f32) .ogt a b i = BitVec.ofBool (decide (b i < a i)) := rfl

/-- The choice between the products and the filler for rows that are not valid is the products. -/
theorem kept (k : Fin 4) (w : Fin 16) : val_main_v83 (F := Ideal) x0 x1 x3 x4 x5 x6 x11 (ix5 0 h s k w)
    = near (query x0 x3 x4 h s) (windows x1 x5 x6 h (chosen x0 x1 x3 x4 x5 x6 x11 h s k)) w := by
  rw [← products]
  unfold val_main_v83
  have e : val_main_v82 (F := Ideal) x0 x1 x3 x4 x5 x6 x11 (ix5 0 h s k w) = 1#1 := by
    have z : val_main_v81 (F := Ideal) (ix5 0 h s k w) = 0 := by pointwise [val_main_v81, val_main_cst_9]
    unfold val_main_v82
    rw [compare_apply, chosen_valid, z, decide_eq_true zero_lt_one]
    rfl
  rw [Take.select_apply, e, Take.select_true]

/-- The softmax of a chosen window's products. -/
theorem weights (k : Fin 4) (w : Fin 16) : val_main_v94 (F := Ideal) x0 x1 x3 x4 x5 x6 x11 (ix5 0 h s k w)
    = soft (near (query x0 x3 x4 h s) (windows x1 x5 x6 h (chosen x0 x1 x3 x4 x5 x6 x11 h s k))) w := by
  rw [show near (query x0 x3 x4 h s) (windows x1 x5 x6 h (chosen x0 x1 x3 x4 x5 x6 x11 h s k))
    = fun w => val_main_v83 (F := Ideal) x0 x1 x3 x4 x5 x6 x11 (ix5 0 h s k w) from funext fun w => (kept x0 x1 x3 x4 x5 x6 x11 h s k w).symm]
  unfold soft
  have e : ∀ y : Fin 16 → EReal, max bottom (top y) = top y := fun y => by rw [bottom_eq]; exact max_eq_right bot_le
  rw [← e]
  unfold top bottom val_main_v94 val_main_v93 val_main_v92 val_main_v91 val_main_v90 val_main_v89 val_main_v88 val_main_v87 val_main_v86
    val_main_v85 val_main_v84
  generalize val_main_v83 (F := Ideal) x0 x1 x3 x4 x5 x6 x11 = y
  pointwise [val_main_cst_11, val_main_cst_12, val_main_cst_13]

/-- A head's result at a row and a column. -/
theorem head (d : Fin 64) : val_main_v96 (F := Ideal) x0 x1 x2 x3 x4 x5 x6 x7 x8 x11 (ix4 0 h s d)
    = headOut (rows x0) (rows x1) (rows x2) (mat x3) (vec x4) (mat x5) (vec x6) (mat x7) (vec x8) (x11 (ix1 0)) h s d := by
  have e : val_main_v96 (F := Ideal) x0 x1 x2 x3 x4 x5 x6 x7 x8 x11 (ix4 0 h s d)
      = ∑ k : Fin 4, val_main_v68 (F := Ideal) x0 x1 x3 x4 x5 x6 x11 (ix4 0 h s k)
        * ∑ w : Fin 16, val_main_v94 (F := Ideal) x0 x1 x3 x4 x5 x6 x11 (ix5 0 h s k w)
          * val_main_v74 (F := Ideal) x0 x1 x2 x3 x4 x5 x6 x7 x8 x11 (ix6 0 h s k w d) := by
    unfold val_main_v96 val_main_v95
    generalize val_main_v68 (F := Ideal) x0 x1 x3 x4 x5 x6 x11 = a
    generalize val_main_v94 (F := Ideal) x0 x1 x3 x4 x5 x6 x11 = b
    generalize val_main_v74 (F := Ideal) x0 x1 x2 x3 x4 x5 x6 x7 x8 x11 = c
    pointwise
  rw [e]
  simp only [shares, weights, chosen_values]
  rfl

/-- The reference's result is `answer`. -/
theorem result (o : Fin 768) : val_main_v103 (F := Ideal) x0 x1 x2 x3 x4 x5 x6 x7 x8 x9 x10 x11 (ix3 0 s o)
    = answer (rows x0) (rows x1) (rows x2) (mat x3) (vec x4) (mat x5) (vec x6) (mat x7) (vec x8) (mat x9) (vec x10) (x11 (ix1 0)) s o := by
  unfold answer
  simp only [← head]
  unfold val_main_v103 val_main_v102 val_main_v101 val_main_v100 val_main_v99 val_main_v98 val_main_v97
  generalize val_main_v96 (F := Ideal) x0 x1 x2 x3 x4 x5 x6 x7 x8 x11 = y
  pointwise
  rw [sum_flat 12 64 768 rfl]
  refine congrArg (· + x10 (ix1 o)) (Finset.sum_congr rfl fun h _ => Finset.sum_congr rfl fun d _ => ?_)
  have hh : (h.val * 64 + d.val) / 64 = h.val := by omega
  have hd : (h.val * 64 + d.val) % 64 = d.val := by omega
  simp only [hh, hd, Fin.eta]

end Cert.ReferenceIdeal.Result
-- ==== Proof.Equal.lean ====
/-
  The kernel's result and the reference's are the same array when their arguments are.
-/
module

public import proofs.«01_k».proof.Proof.KernelValue
public import proofs.«01_k».proof.Proof.RefValue

@[expose] public section

noncomputable section

open Idealize.ShloMosaic Idealize.ShloMosaic.TcCoe Idealize.SL.Sem

namespace Cert.KernelIdeal.Value

open Cert.KernelIdeal Cert.KernelIdeal.Gen Cert.Attn

variable (m : (ℓ : Loc nD τ sig) → Buf (Elt Ideal) ℓ) (ρ : Dev nD → PrngReg) (c : Dev nD)

/-- The reference's result on the kernel's arguments is the kernel's result: at every row and column both are `answer`. -/
theorem results_equal
    (y0 : Cert.ReferenceIdeal.S1x2048x768.Idx → EReal) (y1 : Cert.ReferenceIdeal.S1x2048x768.Idx → EReal) (y2 : Cert.ReferenceIdeal.S1x2048x768.Idx → EReal)
    (y3 : Cert.ReferenceIdeal.S768x768.Idx → EReal) (y4 : Cert.ReferenceIdeal.S768.Idx → EReal) (y5 : Cert.ReferenceIdeal.S768x768.Idx → EReal)
    (y6 : Cert.ReferenceIdeal.S768.Idx → EReal) (y7 : Cert.ReferenceIdeal.S768x768.Idx → EReal) (y8 : Cert.ReferenceIdeal.S768.Idx → EReal)
    (y9 : Cert.ReferenceIdeal.S768x768.Idx → EReal) (y10 : Cert.ReferenceIdeal.S768.Idx → EReal) (y11 : Cert.ReferenceIdeal.S1.Idx → EReal)
    (h0 : y0 = m ((c.tc : Thread nD τ).loc main_arg0))
    (h1 : y1 = m ((c.tc : Thread nD τ).loc main_arg1))
    (h2 : y2 = m ((c.tc : Thread nD τ).loc main_arg2))
    (h3 : y3 = m ((c.tc : Thread nD τ).loc main_arg3))
    (h4 : y4 = m ((c.tc : Thread nD τ).loc main_arg4))
    (h5 : y5 = m ((c.tc : Thread nD τ).loc main_arg5))
    (h6 : y6 = m ((c.tc : Thread nD τ).loc main_arg6))
    (h7 : y7 = m ((c.tc : Thread nD τ).loc main_arg7))
    (h8 : y8 = m ((c.tc : Thread nD τ).loc main_arg8))
    (h9 : y9 = m ((c.tc : Thread nD τ).loc main_arg9))
    (h10 : y10 = m ((c.tc : Thread nD τ).loc main_arg10))
    (h11 : y11 = m ((c.tc : Thread nD τ).loc main_arg11)) :
    Cert.ReferenceIdeal.Read.val_main_v103 (F := Ideal) y0 y1 y2 y3 y4 y5 y6 y7 y8 y9 y10 y11
      = W12 m ρ c (Proc.devRef .tc main_v26) := by
  subst h0 h1 h2 h3 h4 h5 h6 h7 h8 h9 h10 h11
  refine funext fun i => ?_
  obtain ⟨z, s, o, rfl⟩ : ∃ (z : Fin 1) (s : Fin 2048) (o : Fin 768), i = ix3 z s o := ⟨_, _, _, eq_ix3 i⟩
  obtain rfl : z = 0 := Subsingleton.elim _ _
  exact (Cert.ReferenceIdeal.Result.result _ _ _ _ _ _ _ _ _ _ _ _ s o).trans (result m ρ c s o).symm

end Cert.KernelIdeal.Value
-- ==== Proof.lean ====
/-
  The claims about the two programs, assembled from the modules under Proof.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equal
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- Every run of the reference ends with its arguments unchanged and its semaphores at zero. -/
theorem frame_reference : quiescent_ReferenceIdeal (hReferenceIdeal := Cert.ReferenceIdeal.Gen.facts) := fun m ρ _ =>
  (θ_run _ _ _).mono (fun r hr => ⟨fun c => (hr c).2, sem_eq_zero_of_no_sems (by decide) r.2⟩) (Cert.ReferenceIdeal.Value.run m ρ)

/-- From equal arguments the kernel and the reference both end, with equal results and their arguments unchanged. -/
theorem equal : algebraic_KernelIdeal_ReferenceIdeal (hKernelIdeal := Cert.KernelIdeal.Gen.facts)
    (hReferenceIdeal := Cert.ReferenceIdeal.Gen.facts) := fun m ρ m' ρ' _ h =>
  ⟨fun c => Cert.KernelIdeal.Gen.W12 m ρ c (Proc.devRef .tc Cert.KernelIdeal.main_v26),
    Cert.KernelIdeal.Gen.run_result m ρ,
    (θ_run _ _ _).mono (fun r hr c => by
      obtain ⟨hv, ha⟩ := hr c
      obtain ⟨h0, h1, h2, h3, h4, h5, h6, h7, h8, h9, h10, h11⟩ := h c
      exact ⟨hv.trans ((Cert.ReferenceIdeal.Read.val_main_v103_eq (F := Ideal) (StableHlo.launchContents m' c)).trans
        (Cert.KernelIdeal.Value.results_equal m ρ c _ _ _ _ _ _ _ _ _ _ _ _ h0 h1 h2 h3 h4 h5 h6 h7 h8 h9 h10 h11)), ha⟩)
      (Cert.ReferenceIdeal.Value.run m' ρ')⟩

/-- All the claims: the three frames, the kernel's idealization and the equality of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
